-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S1 : Shape := ⟨1, ![1]⟩
abbrev S4096x8192 : Shape := ⟨2, ![4096, 8192]⟩
abbrev S512x512 : Shape := ⟨2, ![512, 512]⟩
abbrev S512x2048 : Shape := ⟨2, ![512, 2048]⟩
abbrev S8x128 : Shape := ⟨2, ![8, 128]⟩
abbrev S_ : Shape := ⟨0, ![]⟩
abbrev S7 : Shape := ⟨1, ![7]⟩

abbrev nBuf : Space → Nat
  | .hbm => 5
  | .vmem => 9
  | .smem => 2
  | _ => 0

abbrev bufTy : (tb : Table) → Fin (tcTables nBuf tb) → BufTy
  | .hbm, ⟨0, _⟩ => ⟨S4096x512, .f32⟩
  | .hbm, ⟨1, _⟩ => ⟨S512x8192, .f32⟩
  | .hbm, ⟨2, _⟩ => ⟨S1, .f32⟩
  | .hbm, ⟨3, _⟩ => ⟨S1, .f32⟩
  | .hbm, ⟨4, _⟩ => ⟨S4096x8192, .bf16⟩
  | .local _ .vmem, ⟨0, _⟩ => ⟨S4096x512, .bf16⟩
  | .local _ .vmem, ⟨1, _⟩ => ⟨S512x8192, .bf16⟩
  | .local _ .vmem, ⟨2, _⟩ => ⟨S512x8192, .bf16⟩
  | .local _ .vmem, ⟨3, _⟩ => ⟨S512x8192, .bf16⟩
  | .local _ .vmem, ⟨4, _⟩ => ⟨S512x8192, .bf16⟩
  | .local _ .vmem, ⟨5, _⟩ => ⟨S512x512, .f32⟩
  | .local _ .vmem, ⟨6, _⟩ => ⟨S512x2048, .f32⟩
  | .local _ .vmem, ⟨7, _⟩ => ⟨S8x128, .f32⟩
  | .local _ .vmem, ⟨8, _⟩ => ⟨S8x128, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v9 : BitVec 32 := Scalar.addi v2 c1_i32_5
  let c8_i32_6 : BitVec 32 := 8#32
  let v10 : BitVec 32 := Scalar.remsi v9 c8_i32_6
  let c1_i32_8 : BitVec 32 := 1#32
  let v11 : BitVec 32 := Scalar.muli v10 c1_i32_8
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.addi v2 c2_i32
  let c8_i32_9 : BitVec 32 := 8#32
  let v14 : BitVec 32 := Scalar.remsi v13 c8_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v17 : BitVec 32 := Scalar.addi v2 c3_i32
  let c8_i32_13 : BitVec 32 := 8#32
  let v18 : BitVec 32 := Scalar.remsi v17 c8_i32_13
  let c1_i32_15 : BitVec 32 := 1#32
  let v19 : BitVec 32 := Scalar.muli v18 c1_i32_15
  let v20 : BitVec 32 := Scalar.addi c0_i32_16 v19
  v20.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v21 : BitVec 32 := Scalar.addi v2 c4_i32
  let c8_i32_17 : BitVec 32 := 8#32
  let v22 : BitVec 32 := Scalar.remsi v21 c8_i32_17
  let c1_i32_19 : BitVec 32 := 1#32
  let v23 : BitVec 32 := Scalar.muli v22 c1_i32_19
  let v24 : BitVec 32 := Scalar.addi c0_i32_20 v23
  v24.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v25 : BitVec 32 := Scalar.addi v2 c5_i32
  let c8_i32_21 : BitVec 32 := 8#32
  let v26 : BitVec 32 := Scalar.remsi v25 c8_i32_21
  let c1_i32_23 : BitVec 32 := 1#32
  let v27 : BitVec 32 := Scalar.muli v26 c1_i32_23
  let v28 : BitVec 32 := Scalar.addi c0_i32_24 v27
  v28.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v29 : BitVec 32 := Scalar.addi v2 c6_i32
  let c8_i32_25 : BitVec 32 := 8#32
  let v30 : BitVec 32 := Scalar.remsi v29 c8_i32_25
  let c1_i32_27 : BitVec 32 := 1#32
  let v31 : BitVec 32 := Scalar.muli v30 c1_i32_27
  let v32 : BitVec 32 := Scalar.addi c0_i32_28 v31
  v32.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v33 : BitVec 32 := Scalar.addi v2 c7_i32
  let c8_i32_29 : BitVec 32 := 8#32
  let v34 : BitVec 32 := Scalar.remsi v33 c8_i32_29
  let c1_i32_31 : BitVec 32 := 1#32
  let v35 : BitVec 32 := Scalar.muli v34 c1_i32_31
  let v36 : BitVec 32 := Scalar.addi c0_i32_32 v35
  v36.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_111 : BitVec 32 := 512#32
  let v121 : BitVec 32 := Scalar.muli v2 c512_i32_111
  let v122 : Index := Scalar.indexCast v121
  let c0_112 : Index := 0#32
  ![v122.toNat, 0]
def k0_dev8 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_132 : BitVec 32 := 1#32
  let v148 : BitVec 32 := Scalar.muli v7 c1_i32_132
  let v149 : BitVec 32 := Scalar.addi c0_i32_133 v148
  v149.toNat
def k0_off2 (d0 : Dev nD) (c0_i32_134 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v150 : BitVec 32 := Scalar.subi v2 c0_i32_134
  let c1_i32_135 : BitVec 32 := 1#32
  let v151 : BitVec 32 := Scalar.subi v150 c1_i32_135
  let c8_i32_136 : BitVec 32 := 8#32
  let v152 : BitVec 32 := Scalar.addi v151 c8_i32_136
  let c8_i32_137 : BitVec 32 := 8#32
  let v153 : BitVec 32 := Scalar.remsi v152 c8_i32_137
  let c512_i32_138 : BitVec 32 := 512#32
  let v154 : BitVec 32 := Scalar.muli v153 c512_i32_138
  let v155 : Index := Scalar.indexCast v154
  let c0_139 : Index := 0#32
  ![v155.toNat, 0]
def k0_dev9 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_169 : BitVec 32 := 1#32
  let v192 : BitVec 32 := Scalar.muli v5 c1_i32_169
  let v193 : BitVec 32 := Scalar.addi c0_i32_170 v192
  v193.toNat
def k0_dev10 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_174 : BitVec 32 := 1#32
  let v196 : BitVec 32 := Scalar.muli v7 c1_i32_174
  let v197 : BitVec 32 := Scalar.addi c0_i32_175 v196
  v197.toNat
def k0_dev11 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_211 : BitVec 32 := 1#32
  let v240 : BitVec 32 := Scalar.muli v5 c1_i32_211
  let v241 : BitVec 32 := Scalar.addi c0_i32_212 v240
  v241.toNat
def k0_dev12 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_216 : BitVec 32 := 1#32
  let v244 : BitVec 32 := Scalar.muli v7 c1_i32_216
  let v245 : BitVec 32 := Scalar.addi c0_i32_217 v244
  v245.toNat
def k0_dev13 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_253 : BitVec 32 := 1#32
  let v288 : BitVec 32 := Scalar.muli v5 c1_i32_253
  let v289 : BitVec 32 := Scalar.addi c0_i32_254 v288
  v289.toNat
def k0_dev14 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_258 : BitVec 32 := 1#32
  let v292 : BitVec 32 := Scalar.muli v7 c1_i32_258
  let v293 : BitVec 32 := Scalar.addi c0_i32_259 v292
  v293.toNat
def k0_dev15 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_295 : BitVec 32 := 1#32
  let v336 : BitVec 32 := Scalar.muli v5 c1_i32_295
  let v337 : BitVec 32 := Scalar.addi c0_i32_296 v336
  v337.toNat
def k0_dev16 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_300 : BitVec 32 := 1#32
  let v340 : BitVec 32 := Scalar.muli v7 c1_i32_300
  let v341 : BitVec 32 := Scalar.addi c0_i32_301 v340
  v341.toNat
def k0_dev17 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_337 : BitVec 32 := 1#32
  let v384 : BitVec 32 := Scalar.muli v5 c1_i32_337
  let v385 : BitVec 32 := Scalar.addi c0_i32_338 v384
  v385.toNat
def k0_dev18 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_342 : BitVec 32 := 1#32
  let v388 : BitVec 32 := Scalar.muli v7 c1_i32_342
  let v389 : BitVec 32 := Scalar.addi c0_i32_343 v388
  v389.toNat
def k0_dev19 (d0 : Dev nD) : Nat :=
  let c0_i32_380 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_379 : BitVec 32 := 1#32
  let v432 : BitVec 32 := Scalar.muli v5 c1_i32_379
  let v433 : BitVec 32 := Scalar.addi c0_i32_380 v432
  v433.toNat
def k0_dev20 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_384 : BitVec 32 := 1#32
  let v436 : BitVec 32 := Scalar.muli v7 c1_i32_384
  let v437 : BitVec 32 := Scalar.addi c0_i32_385 v436
  v437.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_427 : BitVec 32 := 1#32
  let v491 : BitVec 32 := Scalar.addi v2 c1_i32_427
  let c8_i32_428 : BitVec 32 := 8#32
  let v492 : BitVec 32 := Scalar.remsi v491 c8_i32_428
  let c512_i32_429 : BitVec 32 := 512#32
  let v493 : BitVec 32 := Scalar.muli v492 c512_i32_429
  let c0_i32_430 : BitVec 32 := 0#32
  ![v493.toNat, 0]
def k0_dev21 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_433 : BitVec 32 := 1#32
  let v497 : BitVec 32 := Scalar.addi v2 c1_i32_433
  let c8_i32_434 : BitVec 32 := 8#32
  let v498 : BitVec 32 := Scalar.remsi v497 c8_i32_434
  let c1_i32_437 : BitVec 32 := 1#32
  let v499 : BitVec 32 := Scalar.muli v498 c1_i32_437
  let v500 : BitVec 32 := Scalar.addi c0_i32_438 v499
  v500.toNat
def k0_dev22 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_441 : BitVec 32 := 2#32
  let v507 : BitVec 32 := Scalar.addi v2 c2_i32_441
  let c8_i32_442 : BitVec 32 := 8#32
  let v508 : BitVec 32 := Scalar.remsi v507 c8_i32_442
  let c1_i32_445 : BitVec 32 := 1#32
  let v509 : BitVec 32 := Scalar.muli v508 c1_i32_445
  let v510 : BitVec 32 := Scalar.addi c0_i32_446 v509
  v510.toNat
def k0_dev23 (d0 : Dev nD) : Nat :=
  let c0_i32_454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_449 : BitVec 32 := 3#32
  let v517 : BitVec 32 := Scalar.addi v2 c3_i32_449
  let c8_i32_450 : BitVec 32 := 8#32
  let v518 : BitVec 32 := Scalar.remsi v517 c8_i32_450
  let c1_i32_453 : BitVec 32 := 1#32
  let v519 : BitVec 32 := Scalar.muli v518 c1_i32_453
  let v520 : BitVec 32 := Scalar.addi c0_i32_454 v519
  v520.toNat
def k0_dev24 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_457 : BitVec 32 := 4#32
  let v527 : BitVec 32 := Scalar.addi v2 c4_i32_457
  let c8_i32_458 : BitVec 32 := 8#32
  let v528 : BitVec 32 := Scalar.remsi v527 c8_i32_458
  let c1_i32_461 : BitVec 32 := 1#32
  let v529 : BitVec 32 := Scalar.muli v528 c1_i32_461
  let v530 : BitVec 32 := Scalar.addi c0_i32_462 v529
  v530.toNat
def k0_dev25 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_465 : BitVec 32 := 5#32
  let v537 : BitVec 32 := Scalar.addi v2 c5_i32_465
  let c8_i32_466 : BitVec 32 := 8#32
  let v538 : BitVec 32 := Scalar.remsi v537 c8_i32_466
  let c1_i32_469 : BitVec 32 := 1#32
  let v539 : BitVec 32 := Scalar.muli v538 c1_i32_469
  let v540 : BitVec 32 := Scalar.addi c0_i32_470 v539
  v540.toNat
def k0_dev26 (d0 : Dev nD) : Nat :=
  let c0_i32_478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_473 : BitVec 32 := 6#32
  let v547 : BitVec 32 := Scalar.addi v2 c6_i32_473
  let c8_i32_474 : BitVec 32 := 8#32
  let v548 : BitVec 32 := Scalar.remsi v547 c8_i32_474
  let c1_i32_477 : BitVec 32 := 1#32
  let v549 : BitVec 32 := Scalar.muli v548 c1_i32_477
  let v550 : BitVec 32 := Scalar.addi c0_i32_478 v549
  v550.toNat
def k0_dev27 (d0 : Dev nD) : Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_481 : BitVec 32 := 7#32
  let v557 : BitVec 32 := Scalar.addi v2 c7_i32_481
  let c8_i32_482 : BitVec 32 := 8#32
  let v558 : BitVec 32 := Scalar.remsi v557 c8_i32_482
  let c1_i32_485 : BitVec 32 := 1#32
  let v559 : BitVec 32 := Scalar.muli v558 c1_i32_485
  let v560 : BitVec 32 := Scalar.addi c0_i32_486 v559
  v560.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Steps.lean ====
/-
# The kernel's body as a sequence of named steps

The body of the kernel on one device is one long list of memory operations. This module names its pieces:
the handshake with the other devices, the staging of one block of `x` or of `w`, the product of one row block
with the whole of `w` (`partialInto`), one step of the ring (`ringStep`, the last one `lastStep`), the scaling,
the copy of a device's own row block into the result, the seven sends of that block and the waits for them.
`cc0_body_eq` states that the body IS the sequence of these pieces, so that the run is proved once per KIND of
piece.
-/
module

public import proofs.«01_k».proof.Proof.Gen.KernelIdeal
public import proofs.«01_k».proof.Proof.Gen.KernelIdeal.Skeleton

@[expose] public section

noncomputable section

namespace Cert.RingProof

open Cert.KernelIdeal Cert.KernelIdeal.Gen
open Idealize.ShloMosaic Idealize.SL.Sem

variable {F : FTy → Type} [FloatOps F]

/-! ## The buffers and the semaphores -/

abbrev xM : Memref sig .tc .hbm S4096x512 .f32 := Memref.whole main_arg0
abbrev wM : Memref sig .tc .hbm S512x8192 .f32 := Memref.whole main_arg1
abbrev sxM : Memref sig .tc .smem S1 .f32 := Memref.whole cc0_stg0_0
abbrev swM : Memref sig .tc .smem S1 .f32 := Memref.whole cc0_stg1_0
abbrev outM : Memref sig .tc .hbm S4096x8192 .bf16 := Memref.whole main_v1
abbrev xbM : Memref sig .tc .vmem S4096x512 .bf16 := Memref.whole cc0_scratch0
abbrev wbM : Memref sig .tc .vmem S512x8192 .bf16 := Memref.whole cc0_scratch1
abbrev accM : Memref sig .tc .vmem S512x8192 .bf16 := Memref.whole cc0_scratch2
abbrev recvM : Memref sig .tc .vmem S512x8192 .bf16 := Memref.whole cc0_scratch3
abbrev pbufM : Memref sig .tc .vmem S512x8192 .bf16 := Memref.whole cc0_scratch4
abbrev stxM : Memref sig .tc .vmem S512x512 .f32 := Memref.whole cc0_scratch5
abbrev stwM : Memref sig .tc .vmem S512x2048 .f32 := Memref.whole cc0_scratch6
abbrev tsrcM : Memref sig .tc .vmem S8x128 .f32 := Memref.whole cc0_scratch7
abbrev tdstM : Memref sig .tc .vmem S8x128 .f32 := Memref.whole cc0_scratch8

abbrev barS : Sem sig := (SemArray.scalar (sig.barrier 0 rfl) : Sems sig S_).sem
abbrev sendS : DmaSem sig := (cc0_scratch9 : DmaSems sig S_).sem
abbrev recvS : DmaSem sig := (cc0_scratch10 : DmaSems sig S_).sem
abbrev copyS : DmaSem sig := (cc0_scratch11 : DmaSems sig S_).sem
abbrev tsendS : DmaSem sig := (cc0_scratch12 : DmaSems sig S_).sem
abbrev trecvS : DmaSem sig := (cc0_scratch13 : DmaSems sig S_).sem
theorem inb7 (j : Fin 7) : ∀ a, (![j.val] : Fin 1 → Nat) a + S1.size a ≤ S7.size a := by revert j; decide
/-- The send and the receive semaphore of the `j`-th send of a device's row block. -/
abbrev agsS (j : Fin 7) : DmaSem sig :=
  (((cc0_scratch14 : DmaSems sig S7).slice (Rect.unit (s := S7) ![j.val] S1.size (inb7 j))).squeeze S_ squeezes_S1_S_).sem
abbrev agrS (j : Fin 7) : DmaSem sig :=
  (((cc0_scratch15 : DmaSems sig S7).slice (Rect.unit (s := S7) ![j.val] S1.size (inb7 j))).squeeze S_ squeezes_S1_S_).sem

/-- Device `d`'s own row block of the result. -/
abbrev ownM (d : Dev nD) : Memref sig .tc .hbm S512x8192 .bf16 :=
  outM.slice (Rect.unit (s := S4096x8192) (k0_off3 d) S512x8192.size (k0_off3_inb d)) (fun _ => rfl)

abbrev PR (F : FTy → Type) [FloatOps F] (α : Type) : Type _ := Prog (TpuEff nD τ sig (Elt F) Λ₀ .tc) α

/-! ## The rectangles -/

abbrev xR (o : Fin 2 → ℕ) (h : ∀ a, o a + S512x512.size a ≤ S4096x512.size a) : Rect S4096x512 :=
  Rect.unit (s := S4096x512) o S512x512.size h
abbrev wR (o : Fin 2 → ℕ) (h : ∀ a, o a + S512x2048.size a ≤ S512x8192.size a) : Rect S512x8192 :=
  Rect.unit (s := S512x8192) o S512x2048.size h
abbrev allR : Rect S512x8192 := Rect.unit (s := S512x8192) ![0, 0] S512x8192.size inb_S512x8192_S512x8192_0_0

/-! ## The steps -/

/-- The signals to the seven other devices and the wait for theirs. -/
def handshake (d : Dev nD) : PR F PUnit := do
  Prog.lift (.semSignal ((⟨k0_dev1 d, k0_dev1_lt d⟩ : Dev nD), .tc) barS (1#32 : BitVec 32).toInt)
  Prog.lift (.semSignal ((⟨k0_dev2 d, k0_dev2_lt d⟩ : Dev nD), .tc) barS (1#32 : BitVec 32).toInt)
  Prog.lift (.semSignal ((⟨k0_dev3 d, k0_dev3_lt d⟩ : Dev nD), .tc) barS (1#32 : BitVec 32).toInt)
  Prog.lift (.semSignal ((⟨k0_dev4 d, k0_dev4_lt d⟩ : Dev nD), .tc) barS (1#32 : BitVec 32).toInt)
  Prog.lift (.semSignal ((⟨k0_dev5 d, k0_dev5_lt d⟩ : Dev nD), .tc) barS (1#32 : BitVec 32).toInt)
  Prog.lift (.semSignal ((⟨k0_dev6 d, k0_dev6_lt d⟩ : Dev nD), .tc) barS (1#32 : BitVec 32).toInt)
  Prog.lift (.semSignal ((⟨k0_dev7 d, k0_dev7_lt d⟩ : Dev nD), .tc) barS (1#32 : BitVec 32).toInt)
  Prog.lift (.semWait barS (7#32 : BitVec 32).toInt)

/-- One row block of `x`: copied to the staging buffer, cast, stored. -/
def stageX (o : Fin 2 → ℕ) (h : ∀ a, o a + S512x512.size a ≤ S4096x512.size a)
    (hp : (xR o h).PackedRows (EltTy.packing .bf16)) : PR F PUnit := do
  Prog.lift (.enqueueDma (xM.slice (xR o h) (fun _ => rfl)) (.here stxM) (.dma copyS) (View.wordExact_bits rfl) (Memref.isWhole_whole _).wordExact ⟨Or.inl rfl, trivial⟩)
  Prog.lift (.waitDma2 copyS (xM.slice (xR o h) (fun _ => rfl)) stxM (View.wordExact_bits rfl) (Memref.isWhole_whole _).wordExact)
  let v : Vec F S512x512 .f32 ← Prog.lift (.load stxM (Rect.unit (s := S512x512) ![0, 0] S512x512.size inb_S512x512_S512x512_0_0).toLoadRect (View.loadsAt_vmem h_S512x512))
  let _ : Vec F S512x512 .bf16 ← Prog.lift (.load xbM (xR o h).toLoadRect (View.loadsAt_vmem h_S512x512))
  Prog.lift (.store xbM (xR o h) (k0_pay1 v) Finset.univ (View.stores_vmem h_S512x512 ((Memref.isWhole_whole _).storeExact_slice rfl _ hp) (fun _ => rfl)) (.inl rfl))

/-- One column block of `w`: the same. -/
def stageW (o : Fin 2 → ℕ) (h : ∀ a, o a + S512x2048.size a ≤ S512x8192.size a)
    (hp : (wR o h).PackedRows (EltTy.packing .bf16)) : PR F PUnit := do
  Prog.lift (.enqueueDma (wM.slice (wR o h) (fun _ => rfl)) (.here stwM) (.dma copyS) (View.wordExact_bits rfl) (Memref.isWhole_whole _).wordExact ⟨Or.inl rfl, trivial⟩)
  Prog.lift (.waitDma2 copyS (wM.slice (wR o h) (fun _ => rfl)) stwM (View.wordExact_bits rfl) (Memref.isWhole_whole _).wordExact)
  let v : Vec F S512x2048 .f32 ← Prog.lift (.load stwM (Rect.unit (s := S512x2048) ![0, 0] S512x2048.size inb_S512x2048_S512x2048_0_0).toLoadRect (View.loadsAt_vmem h_S512x2048))
  let _ : Vec F S512x2048 .bf16 ← Prog.lift (.load wbM (wR o h).toLoadRect (View.loadsAt_vmem h_S512x2048))
  Prog.lift (.store wbM (wR o h) (k0_pay10 v) Finset.univ (View.stores_vmem h_S512x2048 ((Memref.isWhole_whole _).storeExact_slice rfl _ hp) (fun _ => rfl)) (.inl rfl))

/-- One column block of the product of the row block `xa` with `w`, stored into `dst`. -/
def dotInto (dst : Memref sig .tc .vmem S512x8192 .bf16) (hd : dst.IsWhole) (xa : Vec F S512x512 .bf16)
    (o : Fin 2 → ℕ) (h : ∀ a, o a + S512x2048.size a ≤ S512x8192.size a)
    (hp : (wR o h).PackedRows (EltTy.packing .bf16)) : PR F PUnit := do
  let v : Vec F S512x2048 .bf16 ← Prog.lift (.load wbM (wR o h).toLoadRect (View.loadsAt_vmem h_S512x2048))
  let _ : Vec F S512x2048 .bf16 ← Prog.lift (.load dst (wR o h).toLoadRect (View.loadsAt_vmem h_S512x2048))
  Prog.lift (.store dst (wR o h) (k0_pay15 xa v) Finset.univ (View.stores_vmem h_S512x2048 (hd.storeExact_slice rfl _ hp) (fun _ => rfl)) (.inl rfl))

/-- The product of the row block of `x` at `o` with `w`, stored into `dst`, by column blocks. -/
def partialInto (dst : Memref sig .tc .vmem S512x8192 .bf16) (hd : dst.IsWhole)
    (o : Fin 2 → ℕ) (h : ∀ a, o a + S512x512.size a ≤ S4096x512.size a) : PR F PUnit := do
  let xa : Vec F S512x512 .bf16 ← Prog.lift (.load xbM (xR o h).toLoadRect (View.loadsAt_vmem h_S512x512))
  dotInto dst hd xa ![0, 0] inb_S512x8192_S512x2048_0_0 packedbf16_S512x8192_S512x2048_0_0
  dotInto dst hd xa ![0, 2048] inb_S512x8192_S512x2048_0_2048 packedbf16_S512x8192_S512x2048_0_2048
  dotInto dst hd xa ![0, 4096] inb_S512x8192_S512x2048_0_4096 packedbf16_S512x8192_S512x2048_0_4096
  dotInto dst hd xa ![0, 6144] inb_S512x8192_S512x2048_0_6144 packedbf16_S512x8192_S512x2048_0_6144

/-- The accumulator sent to device `n`. -/
def sendAcc (n : Dev nD) : PR F PUnit :=
  Prog.lift (.enqueueDma accM (.remote (Dev.tc n) recvM (.dma sendS)) (.dma recvS) (Memref.isWhole_whole _).wordExact (Memref.isWhole_whole _).wordExact ⟨⟨rfl, Or.inl rfl⟩, trivial⟩)

/-- The waits for the accumulator sent and for the one received. -/
def waitAcc : PR F PUnit := do
  Prog.lift (.waitDma2 sendS recvM accM (Memref.isWhole_whole _).wordExact (Memref.isWhole_whole _).wordExact)
  Prog.lift (.waitDma2 recvS accM recvM (Memref.isWhole_whole _).wordExact (Memref.isWhole_whole _).wordExact)

/-- The accumulator becomes the product just formed plus what was received. -/
def addAcc : PR F PUnit := do
  let p : Vec F S512x8192 .bf16 ← Prog.lift (.load pbufM allR.toLoadRect (View.loadsAt_vmem h_S512x8192))
  let q : Vec F S512x8192 .bf16 ← Prog.lift (.load recvM allR.toLoadRect (View.loadsAt_vmem h_S512x8192))
  let _ : Vec F S512x8192 .bf16 ← Prog.lift (.load accM allR.toLoadRect (View.loadsAt_vmem h_S512x8192))
  Prog.lift (.store accM allR (k0_pay24 p q) Finset.univ (View.stores_vmem h_S512x8192 ((Memref.isWhole_whole _).storeExact_slice rfl _ packedbf16_S512x8192_S512x8192_0_0) (fun _ => rfl)) (.inl rfl))

/-- The token sent to device `l`, and the waits for it and for the one received. -/
def token (l : Dev nD) : PR F PUnit := do
  Prog.lift (.enqueueDma tsrcM (.remote (Dev.tc l) tdstM (.dma tsendS)) (.dma trecvS) (Memref.isWhole_whole _).wordExact (Memref.isWhole_whole _).wordExact ⟨⟨rfl, Or.inl rfl⟩, trivial⟩)
  Prog.lift (.waitDma2 tsendS tdstM tsrcM (Memref.isWhole_whole _).wordExact (Memref.isWhole_whole _).wordExact)
  Prog.lift (.waitDma2 trecvS tsrcM tdstM (Memref.isWhole_whole _).wordExact (Memref.isWhole_whole _).wordExact)

/-- The last step of the ring: no token. -/
def lastStep (n : Dev nD) (o : Fin 2 → ℕ) (h : ∀ a, o a + S512x512.size a ≤ S4096x512.size a) : PR F PUnit := do
  sendAcc n
  partialInto pbufM (Memref.isWhole_whole _) o h
  waitAcc
  addAcc

/-- One step of the ring: the accumulator to `n`, the token to `l`. -/
def ringStep (n l : Dev nD) (o : Fin 2 → ℕ) (h : ∀ a, o a + S512x512.size a ≤ S4096x512.size a) : PR F PUnit := do
  lastStep n o h
  token l

/-- The accumulator times the product of the two scales. -/
def scaleAcc : PR F PUnit := do
  let a : Elt F .f32 ← smemLoad sxM (Rect.unit (s := S1) ![0] S1.size inb_S1_S1_0) numel1_S1 rfl
  let b : Elt F .f32 ← smemLoad swM (Rect.unit (s := S1) ![0] S1.size inb_S1_S1_0) numel1_S1 rfl
  let v : Vec F S512x8192 .bf16 ← Prog.lift (.load accM allR.toLoadRect (View.loadsAt_vmem h_S512x8192))
  let _ : Vec F S512x8192 .bf16 ← Prog.lift (.load accM allR.toLoadRect (View.loadsAt_vmem h_S512x8192))
  Prog.lift (.store accM allR (k0_pay59 a b v) Finset.univ (View.stores_vmem h_S512x8192 ((Memref.isWhole_whole _).storeExact_slice rfl _ packedbf16_S512x8192_S512x8192_0_0) (fun _ => rfl)) (.inl rfl))

/-- The accumulator copied to the device's own row block of its result. -/
def ownCopy (d : Dev nD) : PR F PUnit := do
  Prog.lift (.enqueueDma accM (.here (ownM d)) (.dma copyS) (Memref.isWhole_whole _).wordExact ((Memref.isWhole_whole _).wordExact_slice rfl _ (k0_off3_wordsbf16 d)) ⟨Or.inl rfl, trivial⟩)
  Prog.lift (.waitDma2 copyS accM (ownM d) (Memref.isWhole_whole _).wordExact ((Memref.isWhole_whole _).wordExact_slice rfl _ (k0_off3_wordsbf16 d)))

/-- The `j`-th send of the row block, to device `n`. -/
def agSend (d n : Dev nD) (j : Fin 7) : PR F PUnit :=
  Prog.lift (.enqueueDma accM (.remote (Dev.tc n) (ownM d) (.dma (agsS j))) (.dma (agrS j)) (Memref.isWhole_whole _).wordExact ((Memref.isWhole_whole _).wordExact_slice rfl _ (k0_off3_wordsbf16 d)) ⟨⟨rfl, Or.inl rfl⟩, trivial⟩)

/-- The wait for the `j`-th send to have left, -/
def agWaitS (d : Dev nD) (j : Fin 7) : PR F PUnit :=
  Prog.lift (.waitDma2 (agsS j) (ownM d) accM ((Memref.isWhole_whole _).wordExact_slice rfl _ (k0_off3_wordsbf16 d)) (Memref.isWhole_whole _).wordExact)

/-- and for the `j`-th row block to have arrived. -/
def agWaitR (d : Dev nD) (j : Fin 7) : PR F PUnit :=
  Prog.lift (.waitDma2 (agrS j) accM (ownM d) (Memref.isWhole_whole _).wordExact ((Memref.isWhole_whole _).wordExact_slice rfl _ (k0_off3_wordsbf16 d)))

/-- The staging of `x` and `w`. -/
def stageAll : PR F PUnit := do
  stageX ![0, 0] inb_S4096x512_S512x512_0_0 packedbf16_S4096x512_S512x512_0_0
  stageX ![512, 0] inb_S4096x512_S512x512_512_0 packedbf16_S4096x512_S512x512_512_0
  stageX ![1024, 0] inb_S4096x512_S512x512_1024_0 packedbf16_S4096x512_S512x512_1024_0
  stageX ![1536, 0] inb_S4096x512_S512x512_1536_0 packedbf16_S4096x512_S512x512_1536_0
  stageX ![2048, 0] inb_S4096x512_S512x512_2048_0 packedbf16_S4096x512_S512x512_2048_0
  stageX ![2560, 0] inb_S4096x512_S512x512_2560_0 packedbf16_S4096x512_S512x512_2560_0
  stageX ![3072, 0] inb_S4096x512_S512x512_3072_0 packedbf16_S4096x512_S512x512_3072_0
  stageX ![3584, 0] inb_S4096x512_S512x512_3584_0 packedbf16_S4096x512_S512x512_3584_0
  stageW ![0, 0] inb_S512x8192_S512x2048_0_0 packedbf16_S512x8192_S512x2048_0_0
  stageW ![0, 2048] inb_S512x8192_S512x2048_0_2048 packedbf16_S512x8192_S512x2048_0_2048
  stageW ![0, 4096] inb_S512x8192_S512x2048_0_4096 packedbf16_S512x8192_S512x2048_0_4096
  stageW ![0, 6144] inb_S512x8192_S512x2048_0_6144 packedbf16_S512x8192_S512x2048_0_6144

/-- The ring: the device's own partial product, the seven steps, the scaling. -/
def ringAll (d : Dev nD) : PR F PUnit := do
  partialInto accM (Memref.isWhole_whole _) (k0_off1 d) (k0_off1_inb d)
  ringStep ⟨k0_dev8 d, k0_dev8_lt d⟩ ⟨k0_dev9 d, k0_dev9_lt d⟩ (k0_off2 d 0#32) (k0_off2_inb d 0)
  ringStep ⟨k0_dev10 d, k0_dev10_lt d⟩ ⟨k0_dev11 d, k0_dev11_lt d⟩ (k0_off2 d 1#32) (k0_off2_inb d 1)
  ringStep ⟨k0_dev12 d, k0_dev12_lt d⟩ ⟨k0_dev13 d, k0_dev13_lt d⟩ (k0_off2 d 2#32) (k0_off2_inb d 2)
  ringStep ⟨k0_dev14 d, k0_dev14_lt d⟩ ⟨k0_dev15 d, k0_dev15_lt d⟩ (k0_off2 d 3#32) (k0_off2_inb d 3)
  ringStep ⟨k0_dev16 d, k0_dev16_lt d⟩ ⟨k0_dev17 d, k0_dev17_lt d⟩ (k0_off2 d 4#32) (k0_off2_inb d 4)
  ringStep ⟨k0_dev18 d, k0_dev18_lt d⟩ ⟨k0_dev19 d, k0_dev19_lt d⟩ (k0_off2 d 5#32) (k0_off2_inb d 5)
  lastStep ⟨k0_dev20 d, k0_dev20_lt d⟩ (k0_off2 d 6#32) (k0_off2_inb d 6)
  scaleAcc

/-- The gathering of the result: the copy of the own block, the seven sends, the waits. -/
def gatherAll (d : Dev nD) : PR F PUnit := do
  ownCopy d
  agSend d ⟨k0_dev21 d, k0_dev21_lt d⟩ 0
  agSend d ⟨k0_dev22 d, k0_dev22_lt d⟩ 1
  agSend d ⟨k0_dev23 d, k0_dev23_lt d⟩ 2
  agSend d ⟨k0_dev24 d, k0_dev24_lt d⟩ 3
  agSend d ⟨k0_dev25 d, k0_dev25_lt d⟩ 4
  agSend d ⟨k0_dev26 d, k0_dev26_lt d⟩ 5
  agSend d ⟨k0_dev27 d, k0_dev27_lt d⟩ 6
  agWaitS d 0
  agWaitS d 1
  agWaitS d 2
  agWaitS d 3
  agWaitS d 4
  agWaitS d 5
  agWaitS d 6
  agWaitR d 0
  agWaitR d 1
  agWaitR d 2
  agWaitR d 3
  agWaitR d 4
  agWaitR d 5
  agWaitR d 6

/-- The body as the sequence of its steps. -/
def bodyProg : PR F PUnit := do
  let d : Dev nD ← Prog.lift .deviceId
  handshake d
  stageAll
  ringAll d
  gatherAll d

set_option maxRecDepth 65536 in
set_option maxHeartbeats 4000000 in
/-- The kernel's body on its buffers is that sequence. -/
theorem cc0_body_eq :
    cc0_body (F := F) xM (Memref.isWhole_whole _) wM (Memref.isWhole_whole _) sxM (Memref.isWhole_whole _) swM (Memref.isWhole_whole _)
      outM (Memref.isWhole_whole _) xbM (Memref.isWhole_whole _) wbM (Memref.isWhole_whole _) accM (Memref.isWhole_whole _)
      recvM (Memref.isWhole_whole _) pbufM (Memref.isWhole_whole _) stxM (Memref.isWhole_whole _) stwM (Memref.isWhole_whole _)
      tsrcM (Memref.isWhole_whole _) tdstM (Memref.isWhole_whole _) cc0_scratch9 cc0_scratch10 cc0_scratch11 cc0_scratch12 cc0_scratch13
      cc0_scratch14 cc0_scratch15 = bodyProg := rfl

end Cert.RingProof

end
-- ==== Proof.Values.lean ====
/-
# What the buffers hold

The contents of the kernel's buffers, as functions of the arrays at launch: the two operands cast and staged, the
product of one row block of a device's columns of `x` with its rows of `w` (`part`), the accumulator of the ring
after each step (`accV`), the scaled row block (`finV`) and the whole result (`outV`), for any float values.
-/
module

public import proofs.«01_k».proof.Proof.Steps
public import Idealize.ShloMosaic.Lib.ValueIdx
public import Idealize.ShloMosaic.Lib.ViewIndex

@[expose] public section

noncomputable section

namespace Cert.RingProof

open Cert.KernelIdeal Cert.KernelIdeal.Gen
open Idealize.ShloMosaic Idealize.ShloMosaic.TcCoe Idealize.ShloMosaic.ValueIdx

variable {F : FTy → Type} [FloatOps F]

/-! ## The devices around the ring -/

/-- The device `k` places after `c`. -/
def sh (k : ℕ) (c : Dev nD) : Dev nD := ⟨(c.val + k) % 8, Nat.mod_lt _ (by decide)⟩
abbrev rgt (c : Dev nD) : Dev nD := sh 1 c
abbrev lft (c : Dev nD) : Dev nD := sh 7 c

theorem sh_sh (j k : ℕ) (c : Dev nD) (h : (j + k) % 8 = 0) : sh j (sh k c) = c := by
  apply Fin.ext
  have hc : c.val < 8 := c.isLt
  show ((c.val + k) % 8 + j) % 8 = c.val
  omega
theorem lft_rgt (c : Dev nD) : lft (rgt c) = c := sh_sh 7 1 c rfl
theorem rgt_lft (c : Dev nD) : rgt (lft c) = c := sh_sh 1 7 c rfl
/-- Going `k` places on, as a permutation of the devices. -/
def shE (k : ℕ) (hk : k ≤ 8) : Dev nD ≃ Dev nD :=
  ⟨sh k, sh (8 - k), fun c => sh_sh _ _ c (by omega), fun c => sh_sh _ _ c (by omega)⟩

/-- The row block a device owns after the ring, the one after its own number. -/
abbrev own (c : Dev nD) : Fin 8 := sh 1 c

/-! ## The contents -/

variable (m : (ℓ : Loc nD τ sig) → Buf (Elt F) ℓ)

def xIn (c : Dev nD) : Vec F S4096x512 .f32 := m ((c : Thread nD τ).loc main_arg0)
def wIn (c : Dev nD) : Vec F S512x8192 .f32 := m ((c : Thread nD τ).loc main_arg1)
def sxIn (c : Dev nD) : Vec F S1 .f32 := m ((c : Thread nD τ).loc main_arg2)
def swIn (c : Dev nD) : Vec F S1 .f32 := m ((c : Thread nD τ).loc main_arg3)

/-- The operands cast. -/
def xbAt (c : Dev nD) : FVec F S4096x512 .bf16 := truncf .bf16 (xIn m c) bitsLt_bf16_f32
def wbAt (c : Dev nD) : FVec F S512x8192 .bf16 := truncf .bf16 (wIn m c) bitsLt_bf16_f32

/-- Row block `r` of the cast `x`, -/
def xRows (c : Dev nD) (r : Fin 8) : FVec F S512x512 .bf16 := fun y =>
  xbAt m c (ix2 ⟨512 * r.val + (y 0).val, by have := idx2_lt0 y; have := r.isLt; omega⟩ (y 1))
/-- and column block `q` of the cast `w`. -/
def wCols (c : Dev nD) (q : Fin 4) : FVec F S512x2048 .bf16 := fun y =>
  wbAt m c (ix2 (y 0) ⟨2048 * q.val + (y 1).val, by have := idx2_lt1 y; have := q.isLt; omega⟩)

/-- The product of row block `r` of device `c`'s `x` with its `w`, by column blocks. -/
def part (c : Dev nD) (r : Fin 8) : FVec F S512x8192 .bf16 := fun i =>
  k0_pay15 (xRows m c r) (wCols m c ⟨(i 1).val / 2048, by have := idx2_lt1 i; omega⟩)
    (ix2 (i 0) ⟨(i 1).val % 2048, Nat.mod_lt _ (by decide)⟩)

/-- The row block the ring's step `s` multiplies on device `c`. -/
def rowOf (c : Dev nD) (s : ℕ) : Fin 8 := ⟨(c.val + 7 - s) % 8, Nat.mod_lt _ (by decide)⟩

/-- The accumulator of device `c` before step `s` of the ring. -/
def accV : ℕ → Dev nD → FVec F S512x8192 .bf16
  | 0, c => part m c c
  | s + 1, c => k0_pay24 (part m c (rowOf c s)) (accV s (lft c))

/-- The row block device `c` ends with, scaled. -/
def finV (c : Dev nD) : FVec F S512x8192 .bf16 := k0_pay59 (sxIn m c (ix1 0)) (swIn m c (ix1 0)) (accV m 7 c)

/-- The whole result: row block `r` is the one device `r - 1` ends with. -/
def outV : FVec F S4096x8192 .bf16 := fun i =>
  finV m (sh 7 ⟨(i 0).val / 512, by have := idx2_lt0 i; show _ < 8; omega⟩)
    (ix2 ⟨(i 0).val % 512, Nat.mod_lt _ (by decide)⟩ (i 1))

/-! ## What the stored values are -/

theorem pay1_eq (v : Vec F S512x512 .f32) : k0_pay1 v = truncf .bf16 v bitsLt_bf16_f32 := by
  unfold k0_pay1
  funext j
  show (truncf .bf16 v bitsLt_bf16_f32) (Shape.reshapeEquiv _ j) = _
  rw [Shape.reshapeEquiv_self]

theorem pay10_eq (v : Vec F S512x2048 .f32) : k0_pay10 v = truncf .bf16 v bitsLt_bf16_f32 := by
  unfold k0_pay10
  funext j
  show (truncf .bf16 v bitsLt_bf16_f32) (Shape.reshapeEquiv _ j) = _
  rw [Shape.reshapeEquiv_self]

/-! ## Stores by blocks -/

omit [FloatOps F] in
/-- A view that reads as `T` wherever `P` holds, after a block of `T` is stored through it, reads as `T` on that
    block too. -/
theorem read_store {κ : Kind} {sp : Space} {s : Shape} {e : EltTy} (v : View sig κ sp s e) (r : Rect s) (T : s.Idx → Elt F e)
    (g : v.ty.Contents (Elt F)) (w : r.shape.Idx → Elt F e) (hw : ∀ x, w x = T (r.emb x)) (P : s.Idx → Prop)
    (hg : ∀ y, P y → v.read (Elt F) g y = T y) (y : s.Idx) (hy : P y ∨ y ∈ r.set) :
    v.read (Elt F) ((v.slice r).write (Elt F) g w Finset.univ) y = T y := by
  by_cases h : y ∈ r.set
  · rw [← r.map_emb_univ] at h
    obtain ⟨x, -, rfl⟩ := Finset.mem_map.mp h
    rw [View.read_slice_write_emb r g w (Finset.mem_univ x), hw]
  · rw [View.read_slice_write_of_not_mem r g w Finset.univ (by rw [r.map_emb_univ]; exact h)]
    exact hg y (hy.resolve_right h)

/-- A row of the block of 512 rows at `n` is in that block's rectangle; -/
theorem mem_xR {n : ℕ} (h) (y : S4096x512.Idx) (h1 : n ≤ (y 0).val) (h2 : (y 0).val < n + 512) : y ∈ (xR ![n, 0] h).set :=
  Rect.mem_set_unit.mpr (Fin.forall_fin_two.mpr ⟨⟨h1, h2⟩, ⟨Nat.zero_le _, by
    have := idx2_lt1 y; show (y 1).val < 0 + 512; omega⟩⟩)

/-- a column of the block of 2048 columns at `n` in that one's. -/
theorem mem_wR {n : ℕ} (h) (y : S512x8192.Idx) (h1 : n ≤ (y 1).val) (h2 : (y 1).val < n + 2048) : y ∈ (wR ![0, n] h).set :=
  Rect.mem_set_unit.mpr (Fin.forall_fin_two.mpr ⟨⟨Nat.zero_le _, by
    have := idx2_lt0 y; show (y 0).val < 0 + 512; omega⟩, ⟨h1, h2⟩⟩)

end Cert.RingProof

end
-- ==== Proof.Protocol.lean ====
/-
# The protocol between the devices

Each device has nineteen semaphore counters that other devices, or transfers, raise. Each is a cell of the rounds
library: the handshake's counter (one round of seven duties, one from each other device), the counters of the ring
(accumulator sent, accumulator received: seven rounds; token sent, token received: six rounds) and the seven pairs of
the last sends (one round each). A duty's payload says what its payment hands to the waiting device:

* a handshake signal hands over the signaller's rows of the result that the waiting device will write, and, from the
  right neighbour, that one's receive buffer;
* an accumulator received in round `r` is the left neighbour's accumulator before step `r`; with it come the left
  neighbour's token buffer and the right to fill it once more;
* a token received hands back the token buffer and the right neighbour's receive buffer;
* a row block received is that block of the result.

The levels order the waits: a device waits for something only while all that it still owes ranks higher.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

abbrev UB : Type := URounds (GSem nD τ sig) (Fin 7)
abbrev UU : Type := UR sig nD τ × (UB × Counters)

local notation "𝕄" => MT nD τ sig ℕ (Elt F) ℕ UU ℕ

abbrev EP : Emb (UR sig nD τ) (MT nD τ sig ℕ (Elt F) ℕ UU ℕ) := embL
/-- The protocol's own copy of the rounds library. -/
def ER : Emb UB (MT nD τ sig ℕ (Elt F) ℕ UU ℕ) := (Emb.inl : Emb UB (UB × Counters)).trans embR
instance ER_landsIn : (ER : Emb UB 𝕄).LandsIn (upEmb : UEmb _ 𝕄) := by unfold ER; infer_instance
abbrev EC : UEmb Counters (MT nD τ sig ℕ (Elt F) ℕ UU ℕ) := countersEmb (U := UU)

/-! ## The cells -/

inductive Role : Type where
  | bar | send | recv | tsend | trecv | ags (j : Fin 7) | agr (j : Fin 7)
deriving DecidableEq, Fintype

/-- The semaphore of a role. -/
@[reducible] def semOf : Role → SemLoc sig
  | .bar => .reg barS
  | .send => .dma sendS
  | .recv => .dma recvS
  | .tsend => .dma tsendS
  | .trecv => .dma trecvS
  | .ags j => .dma (agsS j)
  | .agr j => .dma (agrS j)

/-- The role of a semaphore. -/
def roleOf : SemLoc sig → Option Role
  | .reg _ => some .bar
  | .dma q => if q = sendS then some .send else if q = recvS then some .recv else if q = tsendS then some .tsend
      else if q = trecvS then some .trecv
      else if h : 7 ≤ q.val ∧ q.val < 14 then some (.ags ⟨q.val - 7, by omega⟩)
      else if h : 14 ≤ q.val ∧ q.val < 21 then some (.agr ⟨q.val - 14, by omega⟩) else none

theorem roleOf_semOf (ρ : Role) : roleOf (semOf ρ) = some ρ := by revert ρ; decide
theorem roleOf_copy : roleOf (.dma copyS) = none := by decide

abbrev kcell (ck : Dev nD × Role) : GSem nD τ sig := ((ck.1 : Thread nD τ), semOf ck.2)

theorem kcell_injective : Function.Injective (kcell : Dev nD × Role → GSem nD τ sig) := by
  rintro ⟨c, k⟩ ⟨c', k'⟩ h
  have h1 : c = c' := congrArg (fun g : GSem nD τ sig => g.1.1) h
  have h2 : some k = some k' := by
    rw [← roleOf_semOf k, ← roleOf_semOf k']; exact congrArg (fun g : GSem nD τ sig => roleOf g.2) h
  rw [h1, Option.some.inj h2]

/-- The credit of a row block's transfer, and of a token's. -/
@[irreducible] def N : ℕ := (accM : Memref sig .tc .vmem S512x8192 .bf16).view.dmaCredit
@[irreducible] def Nt : ℕ := (tdstM : Memref sig .tc .vmem S8x128 .f32).view.dmaCredit
theorem N_eq : (accM : Memref sig .tc .vmem S512x8192 .bf16).view.dmaCredit = N := by unfold N; rfl
theorem Nt_eq : (tdstM : Memref sig .tc .vmem S8x128 .f32).view.dmaCredit = Nt := by unfold Nt; rfl
theorem N_recv : (recvM : Memref sig .tc .vmem S512x8192 .bf16).view.dmaCredit = N := by unfold N; rfl
theorem N_own (c : Dev nD) : (ownM c).view.dmaCredit = N := by unfold N; rfl
theorem Nt_src : (tsrcM : Memref sig .tc .vmem S8x128 .f32).view.dmaCredit = Nt := by unfold Nt; rfl
theorem N_pos : 0 < N := by rw [← N_eq]; exact View.dmaCredit_pos _ (by decide +kernel)
theorem Nt_pos : 0 < Nt := by rw [← Nt_eq]; exact View.dmaCredit_pos _ (by decide +kernel)

/-! ## The schedule -/

/-- The whole of a buffer on device `c`. -/
abbrev pts {sp : Space} {s : Shape} {e : EltTy} (M : Memref sig .tc sp s e) (c : Dev nD)
    (f : Buf (Elt F) (M.view.loc (c : Thread nD τ))) : sProp 𝕄 :=
  M.view.loc (c : Thread nD τ) ↦[M.view.set]{fullShare} f

variable (m : (ℓ : Loc nD τ sig) → Buf (Elt F) ℓ)

/-- Device `p`'s rows of the result that device `c` writes. -/
abbrev blk (p c : Dev nD) (f : Buf (Elt F) ((ownM c).view.loc (p : Thread nD τ))) : sProp 𝕄 :=
  (ownM c).view.loc (p : Thread nD τ) ↦[(ownM c).view.set]{fullShare} f

/-- What comes with an accumulator sent by `c` in round `r`. -/
def extra (c : Dev nD) (r : ℕ) : sProp 𝕄 :=
  if r < 6 then iprop((∃ f, pts tdstM c f) ∗ reached ER (kcell (c, .trecv)) r) else iprop(emp)

def pay : Role → Dev nD → ℕ → Fin 7 → sProp 𝕄
  | .bar, c, _, k => iprop((∃ f, blk (sh (k.val + 1) c) c f) ∗ (if k = 0 then iprop(∃ f, pts recvM (rgt c) f) else iprop(emp)))
  | .send, c, r, _ => pts accM c (accV m r c)
  | .recv, c, r, _ => iprop(pts recvM c (accV m r (lft c)) ∗ extra (lft c) r)
  | .tsend, c, _, _ => iprop(∃ f, pts tsrcM c f)
  | .trecv, c, r, _ => iprop((∃ f, pts tdstM c f) ∗ (∃ f, pts recvM (rgt c) f) ∗ reached ER (kcell (rgt c, .recv)) (r + 1))
  | .ags j, c, _, _ => iprop((accM : Memref sig .tc .vmem S512x8192 .bf16).view.loc (c : Thread nD τ)
      ↦[(accM : Memref sig .tc .vmem S512x8192 .bf16).view.set]{Transfers.shareTok fullShare 7 j} finV m c)
  | .agr j, c, _, _ => blk c (sh (7 - j.val) c) (outV m)

def roundsOf : Role → ℕ
  | .bar => 1 | .send => 7 | .recv => 7 | .tsend => 6 | .trecv => 6 | .ags _ => 1 | .agr _ => 1
def dutiesOf : Role → Finset (Fin 7)
  | .bar => Finset.univ | _ => {0}
def amountOf : Role → ℕ
  | .bar => 1 | .tsend => Nt | .trecv => Nt | _ => N

theorem amountOf_pos : ∀ ρ, 0 < amountOf ρ
  | .bar => Nat.one_pos | .tsend => Nt_pos | .trecv => Nt_pos | .send => N_pos | .recv => N_pos | .ags _ => N_pos | .agr _ => N_pos

def rd : Rounds.Schedule (GSem nD τ sig) (Fin 7) 𝕄 where
  duties g r := match roleOf g.2 with
    | some ρ => if g.1.2 = .tc ∧ r < roundsOf ρ then dutiesOf ρ else ∅
    | none => ∅
  unitless _ := False
  amount g _ _ := match roleOf g.2 with
    | some ρ => amountOf ρ
    | none => 1
  payload g r d := match roleOf g.2 with
    | some ρ => pay m ρ g.1.1 r d
    | none => iprop(emp)
  amount_pos g _ _ _ := by
    split
    · exact amountOf_pos _
    · exact Nat.one_pos

instance extra_storable (c : Dev nD) (r : ℕ) : BI.Storable (upEmb : UEmb _ 𝕄) (extra (F := F) c r) := by
  unfold extra; split <;> infer_instance

set_option synthInstance.maxHeartbeats 200000 in
instance pay_storable (ρ : Role) (c : Dev nD) (r : ℕ) (d : Fin 7) : BI.Storable (upEmb : UEmb _ 𝕄) (pay m ρ c r d) := by
  cases ρ with
  | bar => unfold pay; by_cases h : d = 0 <;> simp only [h, if_true, if_false] <;> infer_instance
  | _ => unfold pay; infer_instance

instance rd_payload_storable (g : GSem nD τ sig) (r : ℕ) (d : Fin 7) :
    BI.Storable (upEmb : UEmb _ 𝕄) ((rd m).payload g r d) := by
  show BI.Storable upEmb (match roleOf g.2 with | some ρ => pay m ρ g.1.1 r d | none => iprop(emp))
  split <;> infer_instance

section Sched
variable (c : Dev nD) (ρ : Role) (r : ℕ) (d : Fin 7)

theorem duties_lt (h : r < roundsOf ρ) : (rd m).duties (kcell (c, ρ)) r = dutiesOf ρ := by
  dsimp only [rd]; rw [roleOf_semOf]; exact if_pos ⟨rfl, h⟩
theorem duties_ge (h : roundsOf ρ ≤ r) : (rd m).duties (kcell (c, ρ)) r = ∅ := by
  dsimp only [rd]; rw [roleOf_semOf]; exact if_neg fun h' => by omega
theorem amount_eq : (rd m).amount (kcell (c, ρ)) r d = amountOf ρ := by
  dsimp only [rd]; rw [roleOf_semOf]
theorem payload_eq : (rd m).payload (kcell (c, ρ)) r d = pay m ρ c r d := by
  dsimp only [rd]; rw [roleOf_semOf]
theorem expect_one (h : r < roundsOf ρ) (hρ : dutiesOf ρ = {0}) : (rd m).expect (kcell (c, ρ)) r = amountOf ρ := by
  unfold Schedule.expect Schedule.amountOf
  rw [duties_lt m c ρ r h, hρ, Finset.sum_singleton, amount_eq]
theorem expect_bar : (rd m).expect (kcell (c, .bar)) 0 = 7 := by
  unfold Schedule.expect Schedule.amountOf
  rw [duties_lt m c .bar 0 (by decide), Finset.sum_congr rfl fun d _ => amount_eq m c .bar 0 d]
  simp [dutiesOf, amountOf]
theorem rest_one (h : r < roundsOf ρ) (hρ : dutiesOf ρ = {0}) :
    bigSep ((rd m).duties (kcell (c, ρ)) r \ ∅) (fun d => (rd m).payload (kcell (c, ρ)) r d) = pay m ρ c r 0 := by
  rw [Finset.sdiff_empty, duties_lt m c ρ r h, hρ, bigSep_singleton, payload_eq]
theorem rest_bar : bigSep ((rd m).duties (kcell (c, .bar)) 0 \ ∅) (fun d => (rd m).payload (kcell (c, .bar)) 0 d)
    = bigSep Finset.univ fun k : Fin 7 => pay m .bar c 0 k := by
  rw [Finset.sdiff_empty, duties_lt m c .bar 0 (by decide)]
  exact bigSep_congr fun d _ => payload_eq m c .bar 0 d
theorem mem_duties (h : r < roundsOf ρ) (hd : d ∈ dutiesOf ρ) : d ∈ (rd m).duties (kcell (c, ρ)) r := by
  rw [duties_lt m c ρ r h]; exact hd

end Sched

/-! ## Levels, and what a device owes -/

def L (g : GSem nD τ sig) : Finset ℕ := if g.1.2 = .tc then Finset.range 8 else ∅
def lev (sm : SemLoc sig) (i : ℕ) : ℕ := match roleOf sm with
  | some .bar => 5
  | some .recv => 10 + 2 * i
  | some .trecv => 11 + 2 * i
  | some (.agr _) => 100
  | _ => 0
def lv (g : GSem nD τ sig) (i : ℕ) : ℕ := lev g.2 i

theorem L_of_ne (g : GSem nD τ sig) (h : g.1.2 ≠ .tc) : L g = ∅ := if_neg h
theorem mem_L (c : Dev nD) (sm : SemLoc sig) (i : ℕ) (h : i < 8) : i ∈ L ((c : Thread nD τ), sm) := by
  unfold L; rw [if_pos rfl]; exact Finset.mem_range.mpr h

/-- One thing a device owes: so many units, at an index, of a role's counter of the device so many places on. -/
structure Due where
  off : ℕ
  role : Role
  ix : ℕ
  n : ℕ

def dueT (c : Dev nD) (x : Due) : CellTallies nD τ sig ℕ := tallyAt (kcell (sh x.off c, x.role)) x.ix x.n
def sumDues (c : Dev nD) : List Due → CellTallies nD τ sig ℕ
  | [] => 0
  | x :: l => sumDues c l + dueT c x

def agDues : List Due := [⟨1, .agr 0, 0, N⟩, ⟨2, .agr 1, 0, N⟩, ⟨3, .agr 2, 0, N⟩, ⟨4, .agr 3, 0, N⟩, ⟨5, .agr 4, 0, N⟩,
  ⟨6, .agr 5, 0, N⟩, ⟨7, .agr 6, 0, N⟩]
/-- What is owed with `k + 1` steps of the ring to go. -/
def ringDues : ℕ → List Due
  | 0 => ⟨1, .recv, 6, N⟩ :: agDues
  | k + 1 => ⟨1, .recv, 5 - k, N⟩ :: ⟨7, .trecv, 5 - k, Nt⟩ :: ringDues k
def allDues : List Due := ⟨1, .bar, 0, 1⟩ :: ⟨2, .bar, 0, 1⟩ :: ⟨3, .bar, 0, 1⟩ :: ⟨4, .bar, 0, 1⟩ :: ⟨5, .bar, 0, 1⟩ ::
  ⟨6, .bar, 0, 1⟩ :: ⟨7, .bar, 0, 1⟩ :: ringDues 6

theorem sumDues_pos {c : Dev nD} {l : List Due} {g : GSem nD τ sig} {i : ℕ} (h : 0 < sumDues c l g i) :
    ∃ x ∈ l, g = kcell (sh x.off c, x.role) ∧ i = x.ix := by
  induction l with
  | nil => exact absurd h (Nat.lt_irrefl 0)
  | cons x l ih =>
    unfold sumDues dueT at h
    rw [Pi.add_apply, Finsupp.add_apply, tallyAt_apply] at h
    by_cases hx : g = kcell (sh x.off c, x.role) ∧ i = x.ix
    · exact ⟨x, List.mem_cons_self, hx⟩
    · rw [if_neg hx, Nat.add_zero] at h
      obtain ⟨y, hy, hh⟩ := ih h
      exact ⟨y, List.mem_cons_of_mem _ hy, hh⟩

/-- Everything on the list ranks above `n`. -/
def Above (n : ℕ) (l : List Due) : Prop := ∀ x ∈ l, x.ix < 8 ∧ n < lev (semOf x.role) x.ix

theorem mayWait (c : Dev nD) (sm : SemLoc sig) (i : ℕ) (hi : i < 8) (l : List Due) (h : Above (lev sm i) l) :
    (levAts L lv : sProp 𝕄) ⊢ MayWait (c : Thread nD τ) sm i (sumDues c l) :=
  Pipeline.mayWait_of_levAts (mem_L c sm i hi) fun g j hg => by
    obtain ⟨x, hx, rfl, rfl⟩ := sumDues_pos hg
    exact ⟨mem_L _ _ _ (h x hx).1, (h x hx).2⟩

theorem lev_role (ρ : Role) (i : ℕ) : lev (semOf ρ) i = match ρ with
    | .bar => 5 | .recv => 10 + 2 * i | .trecv => 11 + 2 * i | .agr _ => 100 | _ => 0 := by
  unfold lev; rw [roleOf_semOf]; cases ρ <;> rfl
theorem lev_copy (i : ℕ) : lev (.dma copyS) i = 0 := by unfold lev; rw [roleOf_copy]

theorem Above.mono {n n' : ℕ} {l : List Due} (h : Above n l) (hn : n' ≤ n) : Above n' l :=
  fun x hx => ⟨(h x hx).1, hn.trans_lt (h x hx).2⟩
theorem Above.tail {n : ℕ} {x : Due} {l : List Due} (h : Above n (x :: l)) : Above n l :=
  fun y hy => h y (List.mem_cons_of_mem _ hy)
theorem above_nil (n : ℕ) : Above n [] := fun x hx => absurd hx List.not_mem_nil
theorem Above.cons {n : ℕ} {x : Due} {l : List Due} (hx : x.ix < 8 ∧ n < lev (semOf x.role) x.ix) (h : Above n l) : Above n (x :: l) :=
  fun y hy => (List.mem_cons.mp hy).elim (fun e => e ▸ hx) (h y)
theorem agDues_above : Above 50 agDues := by
  unfold agDues
  (repeat' refine Above.cons ⟨by decide, by rw [lev_role]; decide⟩ ?_)
  exact above_nil _
theorem ringDues_above : ∀ k, k ≤ 6 → Above (21 - 2 * k) (ringDues k)
  | 0, _ => Above.cons ⟨by decide, by rw [lev_role]; decide⟩ (agDues_above.mono (show 21 - 2 * 0 ≤ 50 by decide))
  | k + 1, h => Above.cons ⟨by show 5 - k < 8; omega, by rw [lev_role]; show _ < 10 + 2 * (5 - k); omega⟩
      (Above.cons ⟨by show 5 - k < 8; omega, by rw [lev_role]; show _ < 11 + 2 * (5 - k); omega⟩
        ((ringDues_above k (by omega)).mono (by omega)))
theorem allDues_above : Above 4 allDues := by
  unfold allDues
  (iterate 7 refine Above.cons ⟨by decide, by rw [lev_role]; decide⟩ ?_)
  exact (ringDues_above 6 le_rfl).mono (show 4 ≤ 21 - 2 * 6 by decide)

end Cert.RingProof

end
-- ==== Proof.Local.lean ====
/-
# The steps a device takes alone

What each of the body's local steps does to the buffers it touches: the staging copies with their casts, the product
of a row block stored by column blocks, the addition, the scaling and the copy of the finished block. A buffer stored
block by block is described by where it already holds its final value.
-/
module

public import proofs.«01_k».proof.Proof.Protocol
public import Idealize.ShloMosaic.Lib.SparseCore.FromWhole

@[expose] public section

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- Device `c` runs `p` and ends in `Q`. -/
abbrev runs (c : Dev nD) (p : PR F PUnit) (Q : sProp 𝕄) : sProp 𝕄 :=
  wp frame (wpE (defs₀ (F := F)) 𝒱₀ (c : Thread nD τ) none) Set.univ p (fun _ => Q)

/-- A step and then the rest. -/
theorem step {c : Dev nD} {p : PR F PUnit} {k : PUnit → PR F PUnit} {P R Q : sProp 𝕄} (h : P ⊢ runs c p R) :
    P ⊢ iprop((R -∗ runs c (k ⟨⟩) Q) -∗ runs c (p >>= k) Q) := by
  unfold runs
  rw [wp_bind]
  iintro HP Hk
  ihave H := h $$ HP
  iapply (wp_wand frame (wpE (defs₀ (F := F)) 𝒱₀ (c : Thread nD τ) none) Set.univ) $$ [H]
  · iexact H
  iintro %a HR
  iapply Hk $$ HR

/-- The last step. -/
theorem step_last {c : Dev nD} {p : PR F PUnit} {P R Q : sProp 𝕄} (h : P ⊢ runs c p R) :
    P ⊢ iprop((R -∗ Q) -∗ runs c p Q) := by
  unfold runs
  iintro HP Hk
  ihave H := h $$ HP
  iapply (wp_wand frame (wpE (defs₀ (F := F)) 𝒱₀ (c : Thread nD τ) none) Set.univ) $$ [H]
  · iexact H
  iintro %a HR
  iapply Hk $$ HR

/-- A step that takes over the whole state, then the rest. -/
theorem seq {c : Dev nD} {p : PR F PUnit} {k : PUnit → PR F PUnit} {P R Q : sProp 𝕄} (h : P ⊢ runs c p R)
    (h' : R ⊢ runs c (k ⟨⟩) Q) : P ⊢ runs c (p >>= k) Q := by
  unfold runs
  rw [wp_bind]
  exact h.trans (wp_mono frame (wpE (defs₀ (F := F)) 𝒱₀ (c : Thread nD τ) none) Set.univ (fun _ => h'))

variable (m : (ℓ : Loc nD τ sig) → Buf (Elt F) ℓ)

/-- What device `c` owes, whatever it has waited for. -/
abbrev ow (c : Dev nD) (l : List Due) : sProp 𝕄 := iprop(∃ W, owes (c : Thread nD τ) (sumDues c l) W)

/-- A buffer known only where `P` holds, where it is `T`. -/
def known {s : Shape} {e : EltTy} (M : Memref sig .tc .vmem s e) (c : Dev nD) (T : s.Idx → Elt F e) (P : s.Idx → Prop) : sProp 𝕄 :=
  iprop(∃ g, ⌜∀ y, P y → M.view.read (Elt F) g y = T y⌝ ∗ pts M c g)

theorem known_all {s : Shape} {e : EltTy} (M : Memref sig .tc .vmem s e) (c : Dev nD) (T : s.Idx → Elt F e) (P : s.Idx → Prop)
    (hP : ∀ y, P y) : (known M c T P : sProp 𝕄) ⊢ iprop(∃ g, ⌜M.view.read (Elt F) g = T⌝ ∗ pts M c g) := by
  unfold known
  iintro ⟨%g, %hg, H⟩
  iexists g
  isplitr
  · ipureintro
    exact funext fun y => hg y (hP y)
  · iexact H

theorem known_start {s : Shape} {e : EltTy} (M : Memref sig .tc .vmem s e) (c : Dev nD) (T : s.Idx → Elt F e) (P : s.Idx → Prop)
    (hP : ∀ y, ¬ P y) : iprop(∃ g, pts M c g) ⊢ (known M c T P : sProp 𝕄) := by
  unfold known
  iintro ⟨%g, H⟩
  iexists g
  isplitr
  · ipureintro
    exact fun y h => absurd h (hP y)
  · iexact H

theorem hz00 : (![0, 0] : Fin 2 → ℕ) = fun _ => 0 := funext fun a => by fin_cases a <;> rfl

omit [FloatOps F] in
theorem readAt_stx (f : S512x512.Idx → Elt F .f32) :
    stxM.view.readAt (Elt F) (Rect.unit (s := S512x512) ![0, 0] S512x512.size inb_S512x512_S512x512_0_0).toLoadRect f = f :=
  Memref.readAt_unit_zero (Elt F) cc0_scratch5 hz00 _ f
omit [FloatOps F] in
theorem readAt_stw (f : S512x2048.Idx → Elt F .f32) :
    stwM.view.readAt (Elt F) (Rect.unit (s := S512x2048) ![0, 0] S512x2048.size inb_S512x2048_S512x2048_0_0).toLoadRect f = f :=
  Memref.readAt_unit_zero (Elt F) cc0_scratch6 hz00 _ f

/-! ## The staging -/

/-- The state while `x` and `w` are staged: the rows of `x` before `n` and the columns of `w` before `n'` are. -/
def staging (c : Dev nD) (n n' : ℕ) (l : List Due) : sProp 𝕄 :=
  iprop(((c : Thread nD τ).loc main_arg0 ↦{fullShare} m ((c : Thread nD τ).loc main_arg0))
    ∗ ((c : Thread nD τ).loc main_arg1 ↦{fullShare} m ((c : Thread nD τ).loc main_arg1))
    ∗ (∃ f, pts stxM c f) ∗ (∃ f, pts stwM c f)
    ∗ known xbM c (xbAt m c) (fun y => (y 0).val < n) ∗ known wbM c (wbAt m c) (fun y => (y 1).val < n')
    ∗ semVal ((c : Thread nD τ), .dma copyS) 0 ∗ ow c l ∗ levAts L lv)

theorem copy_wait (c : Dev nD) (l : List Due) (hl : Above 0 l) :
    (levAts L lv : sProp 𝕄) ⊢ MayWait (c : Thread nD τ) (.dma copyS) 0 (sumDues c l) :=
  mayWait c _ 0 (by decide) l (by rw [lev_copy]; exact hl)

theorem stageX_spec (c : Dev nD) (n n' : ℕ) (l : List Due) (hl : Above 0 l) (h) (hp) :
    (staging m c n n' l) ⊢ runs c (stageX (F := F) ![n, 0] h hp) (staging m c (n + 512) n' l) := by
  unfold staging runs stageX
  simp only [Prog.lift, Prog.bind_op, Prog.bind_ret]
  iintro ⟨Hx, Hw, ⟨%f, Hsx⟩, Hsw, Hxb, Hwb, Hv, ⟨%W, HO⟩, #Hlev⟩
  iapply (Transfers.wp_dmaFromWhole EC 𝒱₀ (c : Thread nD τ) none 0 stxM.view.dmaCredit rfl (View.dmaCredit_pos _ (by decide +kernel)) (Finset.Subset.refl _))
    $$ [Hx Hsx Hv]
  · iframe Hx Hsx Hv
  iintro Hfl
  ihave Hmw := (copy_wait c l hl) $$ Hlev
  iapply (Transfers.wp_waitLocalO EC 𝒱₀ (c : Thread nD τ) none 0 rfl) $$ [Hfl HO Hmw]
  · iframe Hfl HO Hmw
  iintro ⟨⟨Hsx, Hx⟩, Hv, HO⟩
  unfold known
  icases Hxb with ⟨%g, %hg, Hxb⟩
  iapply (wp_load 𝒱₀ (c : Thread nD τ) none Set.univ (m := stxM) (View.setOn_subset_set _ _)) $$ Hsx; iintro Hsx
  iapply (wp_load 𝒱₀ (c : Thread nD τ) none Set.univ (m := xbM) (View.setOn_subset_set _ _)) $$ Hxb; iintro Hxb
  iapply (wp_store 𝒱₀ (c : Thread nD τ) none Set.univ (m := xbM) (r := xR ![n, 0] h) (Mk := Finset.univ) (by rw [View.set_whole]; exact Finset.subset_univ _)) $$ Hxb; iintro Hxb
  rw [wp_ret]
  imodintro
  iframe Hx Hw Hwb Hsw Hv Hlev
  isplitl [Hsx]; · iexists _; iexact Hsx
  isplitl [Hxb]
  · iexists _
    isplitr; swap
    · iexact Hxb
    · ipureintro
      intro y hy
      refine read_store _ _ _ g _ ?_ (fun y => (y 0).val < n) hg y ?_
      · intro x
        rw [pay1_eq]
        refine (congrArg (fun v => truncf .bf16 v bitsLt_bf16_f32 x) ((readAt_stx _).trans (View.write_whole_univ ..))).trans ?_
        rfl
      · by_cases h' : (y 0).val < n
        · exact .inl h'
        · exact .inr (mem_xR h y (not_lt.mp h') hy)
  · iexists _; iexact HO

theorem stageW_spec (c : Dev nD) (n n' : ℕ) (l : List Due) (hl : Above 0 l) (h) (hp) :
    (staging m c n n' l) ⊢ runs c (stageW (F := F) ![0, n'] h hp) (staging m c n (n' + 2048) l) := by
  unfold staging runs stageW
  simp only [Prog.lift, Prog.bind_op, Prog.bind_ret]
  iintro ⟨Hx, Hw, Hsx, ⟨%f, Hsw⟩, Hxb, Hwb, Hv, ⟨%W, HO⟩, #Hlev⟩
  iapply (Transfers.wp_dmaFromWhole EC 𝒱₀ (c : Thread nD τ) none 0 stwM.view.dmaCredit rfl (View.dmaCredit_pos _ (by decide +kernel)) (Finset.Subset.refl _))
    $$ [Hw Hsw Hv]
  · iframe Hw Hsw Hv
  iintro Hfl
  ihave Hmw := (copy_wait c l hl) $$ Hlev
  iapply (Transfers.wp_waitLocalO EC 𝒱₀ (c : Thread nD τ) none 0 rfl) $$ [Hfl HO Hmw]
  · iframe Hfl HO Hmw
  iintro ⟨⟨Hsw, Hw⟩, Hv, HO⟩
  unfold known
  icases Hwb with ⟨%g, %hg, Hwb⟩
  iapply (wp_load 𝒱₀ (c : Thread nD τ) none Set.univ (m := stwM) (View.setOn_subset_set _ _)) $$ Hsw; iintro Hsw
  iapply (wp_load 𝒱₀ (c : Thread nD τ) none Set.univ (m := wbM) (View.setOn_subset_set _ _)) $$ Hwb; iintro Hwb
  iapply (wp_store 𝒱₀ (c : Thread nD τ) none Set.univ (m := wbM) (r := wR ![0, n'] h) (Mk := Finset.univ) (by rw [View.set_whole]; exact Finset.subset_univ _)) $$ Hwb; iintro Hwb
  rw [wp_ret]
  imodintro
  iframe Hx Hw Hxb Hsx Hv Hlev
  isplitl [Hsw]; · iexists _; iexact Hsw
  isplitl [Hwb]
  · iexists _
    isplitr; swap
    · iexact Hwb
    · ipureintro
      intro y hy
      refine read_store _ _ _ g _ ?_ (fun y => (y 1).val < n') hg y ?_
      · intro x
        rw [pay10_eq]
        refine (congrArg (fun v => truncf .bf16 v bitsLt_bf16_f32 x) ((readAt_stw _).trans (View.write_whole_univ ..))).trans ?_
        rfl
      · by_cases h' : (y 1).val < n'
        · exact .inl h'
        · exact .inr (mem_wR h y (not_lt.mp h') hy)
  · iexists _; iexact HO

/-- The whole staging. -/
theorem stageAll_spec (c : Dev nD) (l : List Due) (hl : Above 0 l) :
    (staging m c 0 0 l) ⊢ runs c (stageAll (F := F)) (staging m c 4096 8192 l) := by
  unfold stageAll
  refine seq (stageX_spec m c _ _ l hl _ _) ?_
  refine seq (stageX_spec m c _ _ l hl _ _) ?_
  refine seq (stageX_spec m c _ _ l hl _ _) ?_
  refine seq (stageX_spec m c _ _ l hl _ _) ?_
  refine seq (stageX_spec m c _ _ l hl _ _) ?_
  refine seq (stageX_spec m c _ _ l hl _ _) ?_
  refine seq (stageX_spec m c _ _ l hl _ _) ?_
  refine seq (stageX_spec m c _ _ l hl _ _) ?_
  refine seq (stageW_spec m c _ _ l hl _ _) ?_
  refine seq (stageW_spec m c _ _ l hl _ _) ?_
  refine seq (stageW_spec m c _ _ l hl _ _) ?_
  exact stageW_spec m c _ _ l hl _ _

/-! ## The products -/

/-- The staged operands. -/
def operands (c : Dev nD) : sProp 𝕄 :=
  iprop((∃ g, ⌜xbM.view.read (Elt F) g = xbAt m c⌝ ∗ pts xbM c g) ∗ (∃ g, ⌜wbM.view.read (Elt F) g = wbAt m c⌝ ∗ pts wbM c g))

theorem operands_intro (c : Dev nD) :
    iprop(known xbM c (xbAt m c) (fun y => (y 0).val < 4096) ∗ known wbM c (wbAt m c) (fun y => (y 1).val < 8192)) ⊢ operands m c := by
  unfold operands
  exact BI.sep_mono (known_all _ _ _ _ fun y => idx2_lt0 y) (known_all _ _ _ _ fun y => idx2_lt1 y)

omit [FloatOps F] in
theorem readAt_emb {s : Shape} {e : EltTy} (M : Memref sig .tc .vmem s e) (r : Rect s) (g : M.view.ty.Contents (Elt F))
    (T : s.Idx → Elt F e) (hg : M.view.read (Elt F) g = T) :
    M.view.readAt (Elt F) r.toLoadRect g = fun x => T (r.emb x) := by
  subst hg; rfl

theorem xRows_eq (c : Dev nD) (r : Fin 8) (h) : (fun x => xbAt m c ((xR ![512 * r.val, 0] h).emb x)) = xRows m c r := by
  funext x
  unfold xRows
  refine congrArg (xbAt m c) (funext fun a => ?_)
  fin_cases a
  · refine Fin.ext ?_
    show 512 * r.val + 1 * (x 0).val = 512 * r.val + (x 0).val
    omega
  · refine Fin.ext ?_
    show 0 + 1 * (x 1).val = (x 1).val
    omega

theorem wCols_eq (c : Dev nD) (q : Fin 4) (h) : (fun x => wbAt m c ((wR ![0, 2048 * q.val] h).emb x)) = wCols m c q := by
  funext x
  unfold wCols
  refine congrArg (wbAt m c) (funext fun a => ?_)
  fin_cases a
  · refine Fin.ext ?_
    show 0 + 1 * (x 0).val = (x 0).val
    omega
  · refine Fin.ext ?_
    show 2048 * q.val + 1 * (x 1).val = 2048 * q.val + (x 1).val
    omega

theorem part_emb (c : Dev nD) (r : Fin 8) (q : Fin 4) (h) (x : S512x2048.Idx) :
    part m c r ((wR ![0, 2048 * q.val] h).emb x) = k0_pay15 (xRows m c r) (wCols m c q) x := by
  have h0 : ((wR ![0, 2048 * q.val] h).emb x 0).val = (x 0).val := by
    show 0 + 1 * (x 0).val = (x 0).val
    omega
  have h1 : ((wR ![0, 2048 * q.val] h).emb x 1).val = 2048 * q.val + (x 1).val := by
    show 2048 * q.val + 1 * (x 1).val = _
    omega
  have hx := idx2_lt1 x
  have hq : (⟨((wR ![0, 2048 * q.val] h).emb x 1).val / 2048, by have := idx2_lt1 ((wR ![0, 2048 * q.val] h).emb x); omega⟩ : Fin 4) = q :=
    Fin.ext (by show _ / 2048 = q.val; rw [h1]; omega)
  unfold part
  rw [hq]
  refine congrArg (k0_pay15 (xRows m c r) (wCols m c q)) (funext fun a => ?_)
  fin_cases a
  · exact Fin.ext h0
  · refine Fin.ext ?_
    show ((wR ![0, 2048 * q.val] h).emb x 1).val % 2048 = (x 1).val
    rw [h1]; omega

/-- One column block of a product. -/
theorem dotInto_spec (c : Dev nD) (dst : Memref sig .tc .vmem S512x8192 .bf16) (hd : dst.IsWhole) (hs : dst.view.set = Finset.univ)
    (r : Fin 8) (q : Fin 4) (n : ℕ) (hn : n = 2048 * q.val) (h) (hp) :
    iprop(operands m c ∗ known dst c (part m c r) (fun y => (y 1).val < n))
      ⊢ runs c (dotInto (F := F) dst hd (xRows m c r) ![0, n] h hp)
          iprop(operands m c ∗ known dst c (part m c r) (fun y => (y 1).val < n + 2048)) := by
  unfold runs dotInto
  simp only [Prog.lift, Prog.bind_op, Prog.bind_ret]
  unfold operands known
  iintro ⟨⟨Hxb, ⟨%gw, %hgw, Hwb⟩⟩, ⟨%g, %hg, Hd⟩⟩
  iapply (wp_load 𝒱₀ (c : Thread nD τ) none Set.univ (m := wbM) (View.setOn_subset_set _ _)) $$ Hwb; iintro Hwb
  iapply (wp_load 𝒱₀ (c : Thread nD τ) none Set.univ (m := dst) (View.setOn_subset_set _ _)) $$ Hd; iintro Hd
  iapply (wp_store 𝒱₀ (c : Thread nD τ) none Set.univ (m := dst) (r := wR ![0, n] h) (Mk := Finset.univ) (by rw [hs]; exact Finset.subset_univ _)) $$ Hd; iintro Hd
  rw [wp_ret]
  imodintro
  iframe Hxb
  isplitl [Hwb]
  · iexists gw
    iframe Hwb
    ipureintro; exact hgw
  · iexists _
    isplitr; swap
    · iexact Hd
    · ipureintro
      intro y hy
      refine read_store _ _ _ g _ ?_ (fun y => (y 1).val < n) hg y ?_
      · intro x
        subst hn
        rw [part_emb, readAt_emb wbM (wR ![0, 2048 * q.val] h) gw _ hgw, wCols_eq]
      · by_cases h' : (y 1).val < n
        · exact .inl h'
        · exact .inr (mem_wR h y (not_lt.mp h') hy)

/-- The whole product of a row block, into a buffer. -/
theorem partialInto_spec (c : Dev nD) (dst : Memref sig .tc .vmem S512x8192 .bf16) (hd : dst.IsWhole) (hs : dst.view.set = Finset.univ)
    (r : Fin 8) (o : Fin 2 → ℕ) (ho : o = ![512 * r.val, 0]) (h) :
    iprop(operands m c ∗ ∃ f, pts dst c f)
      ⊢ runs c (partialInto (F := F) dst hd o h)
          iprop(operands m c ∗ ∃ g, ⌜dst.view.read (Elt F) g = part m c r⌝ ∗ pts dst c g) := by
  subst ho
  unfold partialInto
  unfold operands
  iintro ⟨⟨⟨%gx, %hgx, Hxb⟩, Hwb⟩, Hd⟩
  unfold runs
  simp only [Prog.lift, Prog.bind_op, Prog.bind_ret]
  iapply (wp_load 𝒱₀ (c : Thread nD τ) none Set.univ (m := xbM) (View.setOn_subset_set _ _)) $$ Hxb; iintro Hxb
  rw [readAt_emb xbM (xR ![512 * r.val, 0] h) gx _ hgx, xRows_eq]
  have key : iprop(operands m c ∗ known dst c (part m c r) (fun y => (y 1).val < 0))
      ⊢ runs c (do
          dotInto (F := F) dst hd (xRows m c r) ![0, 0] inb_S512x8192_S512x2048_0_0 packedbf16_S512x8192_S512x2048_0_0
          dotInto dst hd (xRows m c r) ![0, 2048] inb_S512x8192_S512x2048_0_2048 packedbf16_S512x8192_S512x2048_0_2048
          dotInto dst hd (xRows m c r) ![0, 4096] inb_S512x8192_S512x2048_0_4096 packedbf16_S512x8192_S512x2048_0_4096
          dotInto dst hd (xRows m c r) ![0, 6144] inb_S512x8192_S512x2048_0_6144 packedbf16_S512x8192_S512x2048_0_6144)
          iprop(operands m c ∗ known dst c (part m c r) (fun y => (y 1).val < 8192)) :=
    seq (dotInto_spec m c dst hd hs r 0 0 rfl _ _) (seq (dotInto_spec m c dst hd hs r 1 2048 rfl _ _)
      (seq (dotInto_spec m c dst hd hs r 2 4096 rfl _ _) (dotInto_spec m c dst hd hs r 3 6144 rfl _ _)))
  iapply (step_last key) $$ [Hxb Hwb Hd]
  · isplitl [Hxb Hwb]
    · unfold operands
      iframe Hwb
      iexists gx
      iframe Hxb
      ipureintro; exact hgx
    · iapply (known_start dst c _ _ (fun y => Nat.not_lt_zero _)) $$ Hd
  · iintro ⟨Ho, Hd⟩
    unfold operands
    isplitl [Ho]; · iexact Ho
    iapply (known_all dst c _ _ (fun y => idx2_lt1 y)) $$ Hd

/-! ## The addition, the scaling, the copy of the own block -/

omit [FloatOps F] in
theorem readAt_acc (f : S512x8192.Idx → Elt F .bf16) : accM.view.readAt (Elt F) allR.toLoadRect f = f :=
  Memref.readAt_unit_zero (Elt F) cc0_scratch2 hz00 _ f
omit [FloatOps F] in
theorem readAt_recv (f : S512x8192.Idx → Elt F .bf16) : recvM.view.readAt (Elt F) allR.toLoadRect f = f :=
  Memref.readAt_unit_zero (Elt F) cc0_scratch3 hz00 _ f
omit [FloatOps F] in
theorem readAt_pbuf (f : S512x8192.Idx → Elt F .bf16) : pbufM.view.readAt (Elt F) allR.toLoadRect f = f :=
  Memref.readAt_unit_zero (Elt F) cc0_scratch4 hz00 _ f
omit [FloatOps F] in
theorem write_acc (f w : S512x8192.Idx → Elt F .bf16) : (accM.access allR).write (Elt F) f w Finset.univ = w :=
  Memref.write_access_unit_zero_univ (Elt F) cc0_scratch2 hz00 _ f w

theorem addAcc_spec (c : Dev nD) (p q : FVec F S512x8192 .bf16) :
    iprop((∃ g, ⌜pbufM.view.read (Elt F) g = p⌝ ∗ pts pbufM c g) ∗ pts recvM c q ∗ ∃ f, pts accM c f)
      ⊢ runs c (addAcc (F := F)) iprop((∃ f, pts pbufM c f) ∗ pts recvM c q ∗ pts accM c (k0_pay24 p q)) := by
  unfold runs addAcc
  simp only [Prog.lift, Prog.bind_op, Prog.bind_ret]
  iintro ⟨⟨%g, %hg, Hp⟩, Hq, ⟨%f, Ha⟩⟩
  iapply (wp_load 𝒱₀ (c : Thread nD τ) none Set.univ (m := pbufM) (View.setOn_subset_set _ _)) $$ Hp; iintro Hp
  iapply (wp_load 𝒱₀ (c : Thread nD τ) none Set.univ (m := recvM) (View.setOn_subset_set _ _)) $$ Hq; iintro Hq
  iapply (wp_load 𝒱₀ (c : Thread nD τ) none Set.univ (m := accM) (View.setOn_subset_set _ _)) $$ Ha; iintro Ha
  iapply (wp_store 𝒱₀ (c : Thread nD τ) none Set.univ (m := accM) (r := allR) (Mk := Finset.univ) (by rw [View.set_whole]; exact Finset.subset_univ _)) $$ Ha; iintro Ha
  rw [write_acc, readAt_recv]
  rw [show pbufM.view.readAt (Elt F) allR.toLoadRect g = p from (readAt_pbuf g).trans hg]
  rw [wp_ret]
  imodintro
  iframe Hq
  isplitl [Hp]; · iexists _; iexact Hp
  iexact Ha

omit [FloatOps F] in
theorem readAt_sx (a : FVec F S1 .f32) (x) :
    sxM.view.readAt (Elt F) (Rect.unit (s := S1) ![0] S1.size inb_S1_S1_0).toLoadRect a x = a (ix1 0) :=
  congrArg a (funext fun i => by fin_cases i; exact Subsingleton.elim (α := Fin 1) _ _)
omit [FloatOps F] in
theorem readAt_sw (a : FVec F S1 .f32) (x) :
    swM.view.readAt (Elt F) (Rect.unit (s := S1) ![0] S1.size inb_S1_S1_0).toLoadRect a x = a (ix1 0) :=
  congrArg a (funext fun i => by fin_cases i; exact Subsingleton.elim (α := Fin 1) _ _)

theorem scaleAcc_spec (c : Dev nD) (a b : FVec F S1 .f32) (v : FVec F S512x8192 .bf16) :
    iprop(pts sxM c a ∗ pts swM c b ∗ pts accM c v)
      ⊢ runs c (scaleAcc (F := F)) iprop(pts sxM c a ∗ pts swM c b ∗ pts accM c (k0_pay59 (a (ix1 0)) (b (ix1 0)) v)) := by
  unfold runs scaleAcc smemLoad smemLoadElt
  simp only [Prog.lift, Prog.bind_op, Prog.bind_ret]
  iintro ⟨Hx, Hw, Ha⟩
  iapply (wp_load 𝒱₀ (c : Thread nD τ) none Set.univ (m := sxM) (View.setOn_subset_set _ _)) $$ Hx; iintro Hx
  iapply (wp_load 𝒱₀ (c : Thread nD τ) none Set.univ (m := swM) (View.setOn_subset_set _ _)) $$ Hw; iintro Hw
  iapply (wp_load 𝒱₀ (c : Thread nD τ) none Set.univ (m := accM) (View.setOn_subset_set _ _)) $$ Ha; iintro Ha
  iapply (wp_load 𝒱₀ (c : Thread nD τ) none Set.univ (m := accM) (View.setOn_subset_set _ _)) $$ Ha; iintro Ha
  iapply (wp_store 𝒱₀ (c : Thread nD τ) none Set.univ (m := accM) (r := allR) (Mk := Finset.univ) (by rw [View.set_whole]; exact Finset.subset_univ _)) $$ Ha; iintro Ha
  rw [write_acc, readAt_acc, readAt_sx, readAt_sw]
  rw [wp_ret]
  imodintro
  iframe Hx Hw
  iexact Ha

/-- The copy of the finished block to the device's own rows. -/
theorem ownCopy_spec (c : Dev nD) (l : List Due) (hl : Above 0 l) (v : FVec F S512x8192 .bf16) :
    iprop(pts accM c v ∗ (∃ f, blk c c f) ∗ semVal ((c : Thread nD τ), .dma copyS) 0 ∗ ow c l ∗ levAts L lv)
      ⊢ runs c (ownCopy (F := F) c) iprop(pts accM c v ∗ (∃ f, blk c c ((ownM c).view.write (Elt F) f v Finset.univ))
          ∗ semVal ((c : Thread nD τ), .dma copyS) 0 ∗ ow c l) := by
  unfold runs ownCopy
  simp only [Prog.lift, Prog.bind_op, Prog.bind_ret]
  iintro ⟨Ha, ⟨%f, Hd⟩, Hv, ⟨%W, HO⟩, #Hlev⟩
  iapply (Transfers.wp_dmaLocal EC 𝒱₀ (c : Thread nD τ) none 0 (ownM c).view.dmaCredit rfl (by rw [N_own]; exact N_pos) (Finset.Subset.refl _))
    $$ [Ha Hd Hv]
  · iframe Ha Hd Hv
  iintro Hfl
  ihave Hmw := (copy_wait c l hl) $$ Hlev
  iapply (Transfers.wp_waitLocalO EC 𝒱₀ (c : Thread nD τ) none 0 rfl) $$ [Hfl HO Hmw]
  · iframe Hfl HO Hmw
  iintro ⟨⟨Hd, Ha⟩, Hv, HO⟩
  rw [wp_ret]
  imodintro
  iframe Ha Hv
  isplitl [Hd]; · iexists f; iexact Hd
  iexists _; iexact HO

end Cert.RingProof

end
-- ==== Proof.Ring.lean ====
/-
# The steps of the ring

One addressed transfer and one wait, each stated once for any of the protocol's cells, and from them a step of the
ring: the accumulator goes to the right neighbour while the next product is formed, the left neighbour's comes in and is
added to it, and a token to the left neighbour says that the receive buffer is free once more.
-/
module

public import proofs.«01_k».proof.Proof.Local

@[expose] public section

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## What every device may know -/

def records (K : Dev nD × Role → ℕ) : sProp 𝕄 :=
  iprop((bigSep Finset.univ fun ck : Dev nD × Role => cellInv ER (rd m) (K ck) (kcell ck))
    ∗ bigSep Finset.univ fun ck : Dev nD × Role => reached ER (kcell ck) 0)

instance records_persistent (K : Dev nD × Role → ℕ) : BI.Persistent (records m K) := by unfold records; infer_instance

theorem inv_at (K : Dev nD × Role → ℕ) (ck : Dev nD × Role) :
    records m K ⊢ (cellInv ER (rd m) (K ck) (kcell ck) : sProp 𝕄) := by
  unfold records
  iintro ⟨#H, -⟩
  iapply (show (bigSep Finset.univ fun ck : Dev nD × Role => (cellInv ER (rd m) (K ck) (kcell ck) : sProp 𝕄)) ⊢ cellInv ER (rd m) (K ck) (kcell ck)
    from bigSep_elim (Finset.mem_univ ck)) $$ H

theorem reached_at (K : Dev nD × Role → ℕ) (ck : Dev nD × Role) :
    records m K ⊢ (reached ER (kcell ck) 0 : sProp 𝕄) := by
  unfold records
  iintro ⟨-, #H⟩
  iapply (show (bigSep Finset.univ fun ck : Dev nD × Role => (reached ER (kcell ck) 0 : sProp 𝕄)) ⊢ reached ER (kcell ck) 0
    from bigSep_elim (Finset.mem_univ ck)) $$ H

variable (K : Dev nD × Role → ℕ)

/-- A wait on a cell of one duty a round. -/
theorem wait_spec (c : Dev nD) (ρ : Role) (r i : ℕ) (w : TpuEff nD τ sig (Elt F) Λ₀ .tc PUnit) (n : ℕ)
    (hw : ∀ X : PUnit → sProp 𝕄, wpE (defs₀ (F := F)) 𝒱₀ (c : Thread nD τ) none Set.univ w X = waitSpec (c : Thread nD τ) Set.univ (semOf ρ) n X)
    (hn : n = amountOf ρ) (hr : r < roundsOf ρ) (hρ : dutiesOf ρ = {0}) (hi : i < 8) (l : List Due) (hl : Above (lev (semOf ρ) i) l) :
    iprop(records m K ∗ levAts L lv ∗ cred (tallyAt (kcell (c, ρ)) i (amountOf ρ)) ∗ atPos ER (kcell (c, ρ)) r ∅ 0 ∗ ow c l)
      ⊢ runs c (Prog.lift w)
          iprop(ow c l ∗ atPos ER (kcell (c, ρ)) (r + 1) ∅ 0 ∗ reached ER (kcell (c, ρ)) (r + 1) ∗ pay m ρ c r 0) := by
  unfold runs
  iintro ⟨#HR, #Hlev, Hc, Hat, ⟨%W, HO⟩⟩
  ihave HI := (inv_at m K (c, ρ)) $$ HR
  ihave Hmw := (mayWait c (semOf ρ) i hi l hl) $$ Hlev
  subst hn
  unfold Prog.lift
  iapply (Rounds.wp_wait_rest_token 𝒱₀ ER (rd m) (c : Thread nD τ) none (κ := K (c, ρ)) hw (Set.mem_univ _) i (O := sumDues c l) (W := W)
    (R := r) (m := 0) (T := ∅) (by rw [Nat.zero_add]; exact (expect_one m c ρ r hr hρ).symm)) $$ [HI Hc HO Hmw Hat]
  · iframe HI Hc HO Hmw Hat
  iintro ⟨HO, Hat, Hre, Hpay⟩
  rw [wp_ret]
  imodintro
  iframe Hat Hre
  isplitl [HO]
  · iexists _; iexact HO
  iapply (Entails.of_eq (rest_one m c ρ r hr hρ)) $$ Hpay

/-- An addressed transfer: its send cell is the sender's, its receive cell the device's `off` places on. -/
theorem send_spec (c : Dev nD) (off : ℕ) (c' : Dev nD) (hc : c' = sh off c) (ρ₁ ρ₂ : Role) (r i : ℕ) {sp sp' : Space} {s : Shape} {e : EltTy}
    (src : Memref sig .tc sp s e) (dst : Memref sig .tc sp' s e) {hsc : dst.view.ref.isScScratch = false}
    {hsrc : src.view.WordExact} {hdst : dst.view.WordExact}
    {hsem : DmaTarget.Typed sp (semOf ρ₂) (.remote (Dev.tc c' : Thread nD τ) dst (semOf ρ₁) hsc)}
    (hN : dst.view.amount (semOf ρ₂) = amountOf ρ₂) (hN' : amountOf ρ₁ = amountOf ρ₂)
    (hr₁ : r < roundsOf ρ₁) (hr₂ : r < roundsOf ρ₂) (hρ₁ : dutiesOf ρ₁ = {0}) (hρ₂ : dutiesOf ρ₂ = {0})
    (q : PosShare TreeShare) (fs : Buf (Elt F) (src.view.loc (c : Thread nD τ))) (fd : Buf (Elt F) (dst.view.loc (c' : Thread nD τ))) (X : sProp 𝕄)
    (hpay₁ : (src.view.loc (c : Thread nD τ) ↦[src.view.set]{q} fs) ⊢ pay m ρ₁ c r 0)
    (hpay₂ : iprop((dst.view.loc (c' : Thread nD τ) ↦[dst.view.set]{fullShare} (dst.view.write (Elt F) fd (src.view.read (Elt F) fs) Finset.univ)) ∗ X)
      ⊢ pay m ρ₂ c' r 0) (l : List Due) :
    iprop(records m K ∗ (src.view.loc (c : Thread nD τ) ↦[src.view.set]{q} fs) ∗ ((dst.view.loc (c' : Thread nD τ) ↦[dst.view.set]{fullShare} fd) ∗ X)
        ∗ ow c (⟨off, ρ₂, i, amountOf ρ₂⟩ :: l) ∗ dutyTok ER (kcell (c, ρ₁)) r 0 ∗ reached ER (kcell (c, ρ₁)) r
        ∗ dutyTok ER (kcell (c', ρ₂)) r 0 ∗ reached ER (kcell (c', ρ₂)) r)
      ⊢ runs c (Prog.lift (.enqueueDma src (.remote (Dev.tc c') dst (semOf ρ₁) hsc) (semOf ρ₂) hsrc hdst hsem))
          iprop(cred (tallyAt (kcell (c, ρ₁)) 0 (amountOf ρ₁)) ∗ ow c l) := by
  subst hc
  unfold runs
  iintro ⟨#HR, Hs, Hd, ⟨%W, HO⟩, Ht1, Hr1, Ht2, Hr2⟩
  ihave HI1 := (inv_at m K (c, ρ₁)) $$ HR
  ihave HI2 := (inv_at m K (sh off c, ρ₂)) $$ HR
  unfold Prog.lift
  iapply (Rounds.wp_send_pointsTo_with 𝒱₀ ER (rd m) (c : Thread nD τ) none (κ₁ := K (c, ρ₁)) (κ₂ := K (sh off c, ρ₂))
    (r₁ := r) (r₂ := r) (d₁ := 0) (d₂ := 0) (fd := fd)
    (mem_duties m c ρ₁ r 0 hr₁ (by rw [hρ₁]; exact Finset.mem_singleton_self _))
    (mem_duties m (sh off c) ρ₂ r 0 hr₂ (by rw [hρ₂]; exact Finset.mem_singleton_self _))
    i 0 (amountOf ρ₂) hN ((amount_eq m c ρ₁ r 0).trans hN') (amount_eq m (sh off c) ρ₂ r 0) (sumDues c l) rfl (W := W)
    (hpay₁.trans (Entails.of_eq (payload_eq m c ρ₁ r 0).symm)) (hpay₂.trans (Entails.of_eq (payload_eq m (sh off c) ρ₂ r 0).symm)))
    $$ [HI1 HI2 Hs Hd HO Ht1 Hr1 Ht2 Hr2]
  · iframe HI1 HI2 Hs Hd HO Ht1 Hr1 Ht2 Hr2
  iintro ⟨Hc, HO⟩
  rw [wp_ret]
  imodintro
  rw [hN']
  iframe Hc
  iexists _; iexact HO

/-! ## A step -/

/-- What a step's sending needs, -/
def sendHalf (c : Dev nD) (s : ℕ) : sProp 𝕄 :=
  iprop(atPos ER (kcell (c, .send)) s ∅ 0 ∗ reached ER (kcell (c, .send)) s ∗ atPos ER (kcell (c, .recv)) s ∅ 0
    ∗ pts accM c (accV m s c) ∗ (∃ f, pts pbufM c f) ∗ operands m c)
/-- the duties it pays and the credit for its wait, -/
def sendToks (c : Dev nD) (s : ℕ) : sProp 𝕄 :=
  iprop(dutyTok ER (kcell (c, .send)) s 0 ∗ dutyTok ER (kcell (rgt c, .recv)) s 0 ∗ cred (tallyAt (kcell (c, .recv)) s N))
/-- the right neighbour's receive buffer. -/
def recvFree (c : Dev nD) (s : ℕ) : sProp 𝕄 :=
  iprop((∃ f, pts recvM (rgt c) f) ∗ reached ER (kcell (rgt c, .recv)) s)

theorem lastStep_spec (c n : Dev nD) (hn : n = rgt c) (s : ℕ) (hs : s < 7) (o : Fin 2 → ℕ) (ho : o = ![512 * (rowOf c s).val, 0]) (h)
    (l : List Due) (hl : Above (10 + 2 * s) l) :
    iprop(records m K ∗ levAts L lv ∗ sendHalf m c s ∗ sendToks c s ∗ recvFree c s ∗ extra c s ∗ ow c (⟨1, .recv, s, N⟩ :: l))
      ⊢ runs c (lastStep (F := F) n o h)
          iprop(sendHalf m c (s + 1) ∗ (∃ f, pts recvM c f) ∗ reached ER (kcell (c, .recv)) (s + 1) ∗ extra (lft c) s ∗ ow c l) := by
  unfold sendHalf sendToks recvFree
  iintro ⟨#HR, #Hlev, ⟨HatS, HrS, HatR, Ha, Hp, Hop⟩, ⟨HtS, HtR, HcR⟩, ⟨⟨%fd, Hd⟩, HrR⟩, Hex, HO⟩
  unfold lastStep sendAcc
  iapply (step (send_spec m K c 1 n hn .send .recv s s accM recvM N_recv rfl hs hs rfl rfl fullShare (accV m s c)
    (show Buf (Elt F) (recvM.view.loc (n : Thread nD τ)) from hn ▸ fd) (extra c s) (Entails.of_eq rfl) ?pay l)) $$ [Ha Hd Hex HO HtS HrS HtR HrR]
  case pay =>
    rw [View.write_whole_univ, View.read_whole]
    subst hn
    show iprop(pts recvM (rgt c) (accV m s c) ∗ extra c s) ⊢ iprop(pts recvM (rgt c) (accV m s (lft (rgt c))) ∗ extra (lft (rgt c)) s)
    rw [lft_rgt]
  · subst hn
    iframe HR Ha HtS HrS HtR HrR
    isplitl [Hd Hex]; · isplitl [Hd]; · iexact Hd
                        iexact Hex
    iexact HO
  iintro ⟨HcS, HO⟩
  iapply (step (partialInto_spec m c pbufM (Memref.isWhole_whole _) (View.set_whole _) (rowOf c s) o ho h)) $$ [Hop Hp]
  · iframe Hop Hp
  iintro ⟨Hop, Hp⟩
  unfold waitAcc
  rw [Prog.bind_assoc]
  iapply (step (wait_spec m K c .send s 0 _ _ (wpE_waitDma2_eq 𝒱₀ (c : Thread nD τ) none Set.univ) N_eq hs rfl (by decide) l
    (hl.mono (by rw [lev_role]; exact Nat.zero_le _)))) $$ [HcS HatS HO]
  · iframe HR Hlev HcS HatS HO
  iintro ⟨HO, HatS, HrS, Ha⟩
  iapply (step (wait_spec m K c .recv s s _ _ (wpE_waitDma2_eq 𝒱₀ (c : Thread nD τ) none Set.univ) N_recv hs rfl (by omega) l
    (hl.mono (by rw [lev_role])))) $$ [HcR HatR HO]
  · iframe HR Hlev HcR HatR HO
  iintro ⟨HO, HatR, HrR, Hpay⟩
  ihave ⟨Hr, Hex⟩ := (Entails.of_eq (show pay m .recv c s 0 = iprop(pts recvM c (accV m s (lft c)) ∗ extra (lft c) s) from rfl)) $$ Hpay
  iapply (step_last (addAcc_spec c (part m c (rowOf c s)) (accV m s (lft c)))) $$ [Hp Hr Ha]
  · iframe Hp Hr
    iexists (accV m s c)
    iapply (Entails.of_eq (show pay m .send c s 0 = pts accM c (accV m s c) from rfl)) $$ Ha
  iintro ⟨Hp, Hr, Ha⟩
  iframe HatS HrS HatR Hp Hop HrR Hex HO
  isplitl [Ha]; · iexact Ha
  iexists _; iexact Hr

/-- What the token's sending needs, -/
def tokenHalf (c : Dev nD) (s : ℕ) : sProp 𝕄 :=
  iprop(atPos ER (kcell (c, .tsend)) s ∅ 0 ∗ reached ER (kcell (c, .tsend)) s ∗ atPos ER (kcell (c, .trecv)) s ∅ 0
    ∗ ∃ f, pts tsrcM c f)
/-- and the duties it pays and the credit for its wait. -/
def tokenToks (c : Dev nD) (s : ℕ) : sProp 𝕄 :=
  iprop(dutyTok ER (kcell (c, .tsend)) s 0 ∗ dutyTok ER (kcell (lft c, .trecv)) s 0 ∗ cred (tallyAt (kcell (c, .trecv)) s Nt))

theorem token_spec (c n : Dev nD) (hn : n = lft c) (s : ℕ) (hs : s < 6) (l : List Due) (hl : Above (11 + 2 * s) l) :
    iprop(records m K ∗ levAts L lv ∗ tokenHalf c s ∗ tokenToks c s ∗ (∃ f, pts recvM c f) ∗ reached ER (kcell (c, .recv)) (s + 1)
        ∗ extra (lft c) s ∗ ow c (⟨7, .trecv, s, Nt⟩ :: l))
      ⊢ runs c (token (F := F) n)
          iprop(tokenHalf c (s + 1) ∗ recvFree c (s + 1) ∗ (∃ f, pts tdstM c f) ∗ reached ER (kcell (c, .trecv)) (s + 1) ∗ ow c l) := by
  subst hn
  unfold tokenHalf tokenToks extra
  rw [if_pos hs]
  iintro ⟨#HR, #Hlev, ⟨HatS, HrS, HatR, ⟨%fs, Hs⟩⟩, ⟨HtS, HtR, HcR⟩, Hrec, HrR, ⟨⟨%fd, Hd⟩, HrT⟩, HO⟩
  unfold token
  iapply (step (send_spec m K c 7 (lft c) rfl .tsend .trecv s s tsrcM tdstM Nt_eq rfl hs hs rfl rfl fullShare fs fd
    iprop((∃ f, pts recvM c f) ∗ reached ER (kcell (c, .recv)) (s + 1)) ?pay₁ ?pay l)) $$ [Hs Hd Hrec HrR HO HtS HrS HtR HrT]
  case pay₁ =>
    show pts tsrcM c fs ⊢ iprop(∃ f, pts tsrcM c f)
    iintro H; iexists _; iexact H
  case pay =>
    show iprop(pts tdstM (lft c) _ ∗ (∃ f, pts recvM c f) ∗ reached ER (kcell (c, .recv)) (s + 1))
      ⊢ iprop((∃ f, pts tdstM (lft c) f) ∗ (∃ f, pts recvM (rgt (lft c)) f) ∗ reached ER (kcell (rgt (lft c), .recv)) (s + 1))
    rw [rgt_lft]
    iintro ⟨H, H1, H2⟩
    iframe H1 H2
    iexists _; iexact H
  · iframe HR Hs Hd Hrec HrR HO HtS HrS HtR HrT
  iintro ⟨HcS, HO⟩
  iapply (step (wait_spec m K c .tsend s 0 _ _ (wpE_waitDma2_eq 𝒱₀ (c : Thread nD τ) none Set.univ) Nt_src hs rfl (by decide) l
    (hl.mono (by rw [lev_role]; exact Nat.zero_le _)))) $$ [HcS HatS HO]
  · iframe HR Hlev HcS HatS HO
  iintro ⟨HO, HatS, HrS, Hs⟩
  iapply (step_last (wait_spec m K c .trecv s s _ _ (wpE_waitDma2_eq 𝒱₀ (c : Thread nD τ) none Set.univ) Nt_eq hs rfl (by omega) l
    (hl.mono (by rw [lev_role])))) $$ [HcR HatR HO]
  · iframe HR Hlev HcR HatR HO
  iintro ⟨HO, HatR, HrT, Hpay⟩
  ihave ⟨Hd, Hrec, HrR⟩ := (Entails.of_eq (show pay m .trecv c s 0
    = iprop((∃ f, pts tdstM c f) ∗ (∃ f, pts recvM (rgt c) f) ∗ reached ER (kcell (rgt c, .recv)) (s + 1)) from rfl)) $$ Hpay
  unfold recvFree
  iframe HatS HrS HatR Hd Hrec HrR HrT HO
  iapply (Entails.of_eq (show pay m .tsend c s 0 = iprop(∃ f, pts tsrcM c f) from rfl)) $$ Hs

/-- A step with its token. -/
theorem ringStep_spec (c n n' : Dev nD) (hn : n = rgt c) (hn' : n' = lft c) (s k : ℕ) (hs : s + k = 5) (o : Fin 2 → ℕ)
    (ho : o = ![512 * (rowOf c s).val, 0]) (h) :
    iprop(records m K ∗ levAts L lv ∗ sendHalf m c s ∗ tokenHalf c s ∗ recvFree c s ∗ (∃ f, pts tdstM c f) ∗ reached ER (kcell (c, .trecv)) s
        ∗ sendToks c s ∗ tokenToks c s ∗ ow c (ringDues (k + 1)))
      ⊢ runs c (ringStep (F := F) n n' o h)
          iprop(sendHalf m c (s + 1) ∗ tokenHalf c (s + 1) ∗ recvFree c (s + 1) ∗ (∃ f, pts tdstM c f) ∗ reached ER (kcell (c, .trecv)) (s + 1)
            ∗ ow c (ringDues k)) := by
  have hk := ringDues_above k (by omega)
  obtain rfl : s = 5 - k := by omega
  iintro ⟨#HR, #Hlev, Hsend, Htok, Hfree, Hd, HrT, Hst, Htt, HO⟩
  unfold ringStep
  iapply (step (lastStep_spec m K c n hn (5 - k) (by omega) o ho h (⟨7, .trecv, 5 - k, Nt⟩ :: ringDues k)
    (Above.cons ⟨by show 5 - k < 8; omega, by rw [lev_role]; show _ < 11 + 2 * (5 - k); omega⟩ (hk.mono (by omega)))))
    $$ [Hsend Hst Hfree Hd HrT HO]
  · iframe HR Hlev Hsend Hst Hfree
    isplitl [Hd HrT]
    · unfold extra
      rw [if_pos (by omega)]
      iframe Hd HrT
    · iexact HO
  iintro ⟨Hsend, Hrec, HrR, Hex, HO⟩
  iapply (step_last (token_spec m K c n' hn' (5 - k) (by omega) (ringDues k) (hk.mono (by omega)))) $$ [Htok Htt Hrec HrR Hex HO]
  · iframe HR Hlev Htok Htt Hrec HrR Hex HO
  iintro ⟨Htok, Hfree, Hd, HrT, HO⟩
  iframe Hsend Htok Hfree Hd HrT HO

end Cert.RingProof

end
-- ==== Proof.Body.lean ====
/-
# The body of the kernel on one device

The handshake, the ring and the gathering of the result, each from what the device holds before it to what it holds
after it, and the result's buffer as the eight row blocks it is gathered from.
-/
module

public import proofs.«01_k».proof.Proof.Ring

@[expose] public section

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Role → ℕ)

omit [FloatOps F] in
theorem bigSep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The handshake -/

theorem bar_pay (c : Dev nD) (j : Fin 7) :
    iprop((∃ f, blk c (sh (j.val + 1) c) f) ∗ (if j = 6 then iprop(∃ f, pts recvM c f) else iprop(emp)))
      ⊢ pay m .bar (sh (j.val + 1) c) 0 (Fin.rev j) := by
  have h1 : sh ((Fin.rev j).val + 1) (sh (j.val + 1) c) = c := sh_sh _ _ c (by rw [Fin.val_rev]; have := j.isLt; omega)
  show _ ⊢ iprop((∃ f, blk (sh ((Fin.rev j).val + 1) (sh (j.val + 1) c)) (sh (j.val + 1) c) f)
    ∗ (if Fin.rev j = 0 then iprop(∃ f, pts recvM (rgt (sh (j.val + 1) c)) f) else iprop(emp)))
  rw [h1]
  by_cases hj : j = 6
  · subst hj
    have h2 : rgt (sh ((6 : Fin 7).val + 1) c) = c := sh_sh 1 7 c rfl
    rw [if_pos rfl, if_pos (by decide), h2]
  · rw [if_neg hj, if_neg (by clear h1; revert hj; revert j; decide)]

theorem signal_spec (c : Dev nD) (j : Fin 7) (n : Dev nD) (hn : n = sh (j.val + 1) c) (l : List Due) :
    iprop(records m K ∗ dutyTok ER (kcell (sh (j.val + 1) c, .bar)) 0 (Fin.rev j) ∗ (∃ f, blk c (sh (j.val + 1) c) f)
        ∗ (if j = 6 then iprop(∃ f, pts recvM c f) else iprop(emp)) ∗ ow c (⟨j.val + 1, .bar, 0, 1⟩ :: l))
      ⊢ runs c (Prog.lift (.semSignal (n, .tc) barS (1#32 : BitVec 32).toInt)) (ow c l) := by
  subst hn
  unfold runs
  iintro ⟨#HR, Ht, Hb, Hr, ⟨%W, HO⟩⟩
  ihave HI := (inv_at m K (sh (j.val + 1) c, .bar)) $$ HR
  ihave Hre := (reached_at m K (sh (j.val + 1) c, .bar)) $$ HR
  unfold Prog.lift
  iapply (Rounds.wp_signal 𝒱₀ ER (rd m) (c : Thread nD τ) none (dst := (sh (j.val + 1) c : Thread nD τ)) (κ := K (sh (j.val + 1) c, .bar))
    (d := Fin.rev j) (mem_duties m _ .bar 0 _ (by decide) (Finset.mem_univ _)) ((amount_eq m (sh (j.val + 1) c) .bar 0 (Fin.rev j)).trans (by decide))
    0 (sumDues c l) rfl) $$ [HI HO Ht Hb Hr Hre]
  · iframe HI HO Ht Hre
    iapply ((bar_pay m c j).trans (Entails.of_eq (payload_eq m (sh (j.val + 1) c) .bar 0 (Fin.rev j)).symm))
    iframe Hb Hr
  iintro HO
  rw [wp_ret]
  imodintro
  iexists _; iexact HO

/-- What a device gives at the handshake. -/
def hsIn (c : Dev nD) (j : Fin 7) : sProp 𝕄 :=
  iprop(dutyTok ER (kcell (sh (j.val + 1) c, .bar)) 0 (Fin.rev j) ∗ ∃ f, blk c (sh (j.val + 1) c) f)

theorem handshake_spec (c : Dev nD) :
    iprop(records m K ∗ levAts L lv ∗ (bigSep Finset.univ fun j : Fin 7 => hsIn c j) ∗ (∃ f, pts recvM c f)
        ∗ cred (tallyAt (kcell (c, .bar)) 0 7) ∗ atPos ER (kcell (c, .bar)) 0 ∅ 0 ∗ ow c allDues)
      ⊢ runs c (handshake (F := F) c) iprop(ow c (ringDues 6) ∗ atPos ER (kcell (c, .bar)) 1 ∅ 0
          ∗ bigSep Finset.univ fun k : Fin 7 => pay m .bar c 0 k) := by
  rw [bigSep7 (hsIn c)]
  unfold hsIn
  iintro ⟨#HR, #Hlev, ⟨⟨T0, B0⟩, ⟨T1, B1⟩, ⟨T2, B2⟩, ⟨T3, B3⟩, ⟨T4, B4⟩, ⟨T5, B5⟩, ⟨T6, B6⟩⟩, Hrec, Hc, Hat, HO⟩
  unfold handshake allDues
  iapply (step (signal_spec m K c 0 _ (Fin.ext (k0_dev1_eq c)) _)) $$ [T0 B0 HO]
  · iframe HR T0 B0
    isplitr; · iempintro
    iexact HO
  iintro HO
  iapply (step (signal_spec m K c 1 _ (Fin.ext (k0_dev2_eq c)) _)) $$ [T1 B1 HO]
  · iframe HR T1 B1
    isplitr; · iempintro
    iexact HO
  iintro HO
  iapply (step (signal_spec m K c 2 _ (Fin.ext (k0_dev3_eq c)) _)) $$ [T2 B2 HO]
  · iframe HR T2 B2
    isplitr; · iempintro
    iexact HO
  iintro HO
  iapply (step (signal_spec m K c 3 _ (Fin.ext (k0_dev4_eq c)) _)) $$ [T3 B3 HO]
  · iframe HR T3 B3
    isplitr; · iempintro
    iexact HO
  iintro HO
  iapply (step (signal_spec m K c 4 _ (Fin.ext (k0_dev5_eq c)) _)) $$ [T4 B4 HO]
  · iframe HR T4 B4
    isplitr; · iempintro
    iexact HO
  iintro HO
  iapply (step (signal_spec m K c 5 _ (Fin.ext (k0_dev6_eq c)) _)) $$ [T5 B5 HO]
  · iframe HR T5 B5
    isplitr; · iempintro
    iexact HO
  iintro HO
  iapply (step (signal_spec m K c 6 _ (Fin.ext (k0_dev7_eq c)) _)) $$ [T6 B6 Hrec HO]
  · iframe HR T6 B6
    isplitl [Hrec]; · iapply (Entails.of_eq (if_pos rfl).symm) $$ Hrec
    iexact HO
  iintro ⟨%W, HO⟩
  ihave HI := (inv_at m K (c, .bar)) $$ HR
  ihave Hmw := (mayWait c (semOf .bar) 0 (by decide) (ringDues 6) ((ringDues_above 6 le_rfl).mono (by rw [lev_role]; decide))) $$ Hlev
  unfold runs Prog.lift
  iapply (Rounds.wp_wait_rest_token 𝒱₀ ER (rd m) (c : Thread nD τ) none (κ := K (c, .bar))
    (wpE_semWait_eq 𝒱₀ (c : Thread nD τ) none Set.univ) (Set.mem_univ _) 0 (O := sumDues c (ringDues 6)) (W := W)
    (R := 0) (m := 0) (T := ∅) ((by decide : 0 + (7#32 : BitVec 32).toInt.toNat = 7).trans (expect_bar m c).symm)) $$ [HI Hc HO Hmw Hat]
  · iframe HI HO Hmw Hat
    iexact Hc
  iintro ⟨HO, Hat, -, Hpay⟩
  rw [wp_ret]
  imodintro
  isplitl [HO]; · iexists _; iexact HO
  iframe Hat
  iapply (Entails.of_eq (rest_bar m c)) $$ Hpay

/-! ## The ring -/

/-- The duties paid and the credit used in the ring, by steps still to go. -/
def ringToks (c : Dev nD) : ℕ → sProp 𝕄
  | 0 => sendToks c 6
  | k + 1 => iprop(sendToks c (5 - k) ∗ tokenToks c (5 - k) ∗ ringToks c k)

theorem ringToks_eq (c : Dev nD) : (ringToks c 6 : sProp 𝕄) = iprop(sendToks c 0 ∗ tokenToks c 0 ∗ sendToks c 1 ∗ tokenToks c 1
    ∗ sendToks c 2 ∗ tokenToks c 2 ∗ sendToks c 3 ∗ tokenToks c 3 ∗ sendToks c 4 ∗ tokenToks c 4 ∗ sendToks c 5 ∗ tokenToks c 5
    ∗ sendToks c 6) := rfl

set_option maxHeartbeats 1600000 in
theorem ringAll_spec (c : Dev nD) :
    iprop(records m K ∗ levAts L lv
        ∗ (atPos ER (kcell (c, .send)) 0 ∅ 0 ∗ atPos ER (kcell (c, .recv)) 0 ∅ 0 ∗ atPos ER (kcell (c, .tsend)) 0 ∅ 0 ∗ atPos ER (kcell (c, .trecv)) 0 ∅ 0)
        ∗ ringToks c 6 ∗ operands m c ∗ (∃ f, pts accM c f) ∗ (∃ f, pts pbufM c f) ∗ (∃ f, pts tsrcM c f) ∗ (∃ f, pts tdstM c f)
        ∗ (∃ f, pts recvM (rgt c) f) ∗ pts sxM c (sxIn m c) ∗ pts swM c (swIn m c) ∗ ow c (ringDues 6))
      ⊢ runs c (ringAll (F := F) c)
          iprop((atPos ER (kcell (c, .send)) 7 ∅ 0 ∗ atPos ER (kcell (c, .recv)) 7 ∅ 0 ∗ atPos ER (kcell (c, .tsend)) 6 ∅ 0 ∗ atPos ER (kcell (c, .trecv)) 6 ∅ 0)
            ∗ operands m c ∗ pts accM c (finV m c) ∗ (∃ f, pts pbufM c f) ∗ (∃ f, pts tsrcM c f) ∗ (∃ f, pts tdstM c f)
            ∗ (∃ f, pts recvM c f) ∗ pts sxM c (sxIn m c) ∗ pts swM c (swIn m c) ∗ ow c agDues) := by
  rw [ringToks_eq]
  iintro ⟨#HR, #Hlev, ⟨P1, P2, P3, P4⟩, HT, Hop, Ha, Hp, Hs, Hd, Hrec, Hsx, Hsw, HO⟩
  ihave R1 := (reached_at m K (c, .send)) $$ HR
  ihave R2 := (reached_at m K (rgt c, .recv)) $$ HR
  ihave R3 := (reached_at m K (c, .tsend)) $$ HR
  ihave R4 := (reached_at m K (c, .trecv)) $$ HR
  icases HT with ⟨S0, T0, S1, T1, S2, T2, S3, T3, S4, T4, S5, T5, S6⟩
  unfold ringAll
  iapply (step (partialInto_spec m c accM (Memref.isWhole_whole _) (View.set_whole _) c (k0_off1 c) (k0_off1_eq c) (k0_off1_inb c))) $$ [Hop Ha]
  · iframe Hop Ha
  iintro ⟨Hop, ⟨%g, %hg, Ha⟩⟩
  obtain rfl : g = accV m 0 c := hg
  iapply (step (ringStep_spec m K c _ _ (Fin.ext (k0_dev8_eq c)) (Fin.ext (k0_dev9_eq c)) 0 5 rfl _ (k0_off2_eq c 0) _))
    $$ [P1 R1 P2 Ha Hp Hop P3 R3 P4 Hs Hrec R2 Hd R4 S0 T0 HO]
  · unfold sendHalf tokenHalf recvFree
    iframe HR Hlev P1 R1 P2 Ha Hp Hop P3 R3 P4 Hs Hrec R2 Hd R4 S0 T0 HO
  iintro ⟨Hsend, Htok, Hfree, Hd, R4, HO⟩
  iapply (step (ringStep_spec m K c _ _ (Fin.ext (k0_dev10_eq c)) (Fin.ext (k0_dev11_eq c)) 1 4 rfl _ (k0_off2_eq c 1) _))
    $$ [Hsend Htok Hfree Hd R4 S1 T1 HO]
  · iframe HR Hlev Hsend Htok Hfree Hd R4 S1 T1 HO
  iintro ⟨Hsend, Htok, Hfree, Hd, R4, HO⟩
  iapply (step (ringStep_spec m K c _ _ (Fin.ext (k0_dev12_eq c)) (Fin.ext (k0_dev13_eq c)) 2 3 rfl _ (k0_off2_eq c 2) _))
    $$ [Hsend Htok Hfree Hd R4 S2 T2 HO]
  · iframe HR Hlev Hsend Htok Hfree Hd R4 S2 T2 HO
  iintro ⟨Hsend, Htok, Hfree, Hd, R4, HO⟩
  iapply (step (ringStep_spec m K c _ _ (Fin.ext (k0_dev14_eq c)) (Fin.ext (k0_dev15_eq c)) 3 2 rfl _ (k0_off2_eq c 3) _))
    $$ [Hsend Htok Hfree Hd R4 S3 T3 HO]
  · iframe HR Hlev Hsend Htok Hfree Hd R4 S3 T3 HO
  iintro ⟨Hsend, Htok, Hfree, Hd, R4, HO⟩
  iapply (step (ringStep_spec m K c _ _ (Fin.ext (k0_dev16_eq c)) (Fin.ext (k0_dev17_eq c)) 4 1 rfl _ (k0_off2_eq c 4) _))
    $$ [Hsend Htok Hfree Hd R4 S4 T4 HO]
  · iframe HR Hlev Hsend Htok Hfree Hd R4 S4 T4 HO
  iintro ⟨Hsend, Htok, Hfree, Hd, R4, HO⟩
  iapply (step (ringStep_spec m K c _ _ (Fin.ext (k0_dev18_eq c)) (Fin.ext (k0_dev19_eq c)) 5 0 rfl _ (k0_off2_eq c 5) _))
    $$ [Hsend Htok Hfree Hd R4 S5 T5 HO]
  · iframe HR Hlev Hsend Htok Hfree Hd R4 S5 T5 HO
  iintro ⟨Hsend, Htok, Hfree, Hd, R4, HO⟩
  iapply (step (lastStep_spec m K c _ (Fin.ext (k0_dev20_eq c)) 6 (by decide) _ (k0_off2_eq c 6) _ agDues (agDues_above.mono (by decide))))
    $$ [Hsend S6 Hfree HO]
  · iframe HR Hlev Hsend Hfree
    isplitl [S6]; · iexact S6
    isplitr
    · unfold extra
      rw [if_neg (by decide)]
      iempintro
    iexact HO
  iintro ⟨Hsend, Hrec, -, -, HO⟩
  unfold sendHalf tokenHalf
  icases Hsend with ⟨P1, -, P2, Ha, Hp, Hop⟩
  icases Htok with ⟨P3, -, P4, Hs⟩
  iapply (step_last (scaleAcc_spec c (sxIn m c) (swIn m c) (accV m 7 c))) $$ [Hsx Hsw Ha]
  · iframe Hsx Hsw Ha
  iintro ⟨Hsx, Hsw, Ha⟩
  iframe Hop Hp Hs Hd Hrec Hsx Hsw HO P1 P2 P3 P4
  iexact Ha

end Cert.RingProof

end
-- ==== Proof.Gather.lean ====
/-
# The gathering of the result

A device copies its finished row block into its own result, sends it to the seven other devices and waits until the
seven sends have left and the seven other blocks have arrived. The result's buffer is its eight row blocks.
-/
module

public import proofs.«01_k».proof.Proof.Body

@[expose] public section

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Role → ℕ)

/-! ## The row blocks of the result -/

/-- Where an element of a device's row block lies in the result. -/
theorem own_emb (c : Dev nD) (y : S512x8192.Idx) :
    ((ownM c).view.emb y 0).val = 512 * (own c).val + (y 0).val ∧ ((ownM c).view.emb y 1).val = (y 1).val := by
  constructor
  · show k0_off3 c 0 + 1 * (y 0).val = _
    rw [k0_off3_eq]
    show 512 * ((c.val + 1) % 8) + 1 * (y 0).val = 512 * ((c.val + 1) % 8) + (y 0).val
    omega
  · show k0_off3 c 1 + 1 * (y 1).val = _
    rw [k0_off3_eq]
    show 0 + 1 * (y 1).val = _
    omega

theorem outV_at (i : S4096x8192.Idx) (c : Dev nD) (y : S512x8192.Idx) (h0 : (i 0).val = 512 * ((c.val + 1) % 8) + (y 0).val)
    (h1 : (i 1).val = (y 1).val) : outV m i = finV m c y := by
  have hy : (y 0).val < 512 := idx2_lt0 y
  have hc : c.val < 8 := c.isLt
  have hd : ∀ h, sh 7 ⟨(i 0).val / 512, h⟩ = c := fun h => by
    refine Fin.ext ?_
    show ((i 0).val / 512 + 7) % 8 = c.val
    rw [h0]
    omega
  unfold outV
  rw [hd]
  refine congrArg (finV m c) (funext fun a => ?_)
  fin_cases a
  · refine Fin.ext ?_
    show (i 0).val % 512 = (y 0).val
    rw [h0]
    omega
  · exact Fin.ext h1

theorem outV_emb (c : Dev nD) (y : S512x8192.Idx) : outV m ((ownM c).view.emb y) = finV m c y :=
  outV_at m _ c y (own_emb c y).1 (own_emb c y).2

/-- A row block written is that block of the result. -/
theorem blk_written (p c : Dev nD) (f : Buf (Elt F) ((ownM c).view.loc (p : Thread nD τ))) :
    (blk p c ((ownM c).view.write (Elt F) f (finV m c) Finset.univ) : sProp 𝕄) = blk p c (outV m) := by
  refine pointsTo_congr fun i hi => ?_
  obtain ⟨y, -, rfl⟩ := Finset.mem_map.mp hi
  rw [View.write_emb_of_mem _ _ (Finset.mem_univ y)]
  exact (outV_emb m c y).symm

/-! ## The sends -/

theorem ag_pay (c : Dev nD) (j : Fin 7) (f : Buf (Elt F) ((ownM c).view.loc ((sh (j.val + 1) c : Dev nD) : Thread nD τ))) :
    iprop(blk (sh (j.val + 1) c) c ((ownM c).view.write (Elt F) f (finV m c) Finset.univ) ∗ emp) ⊢ pay m (.agr j) (sh (j.val + 1) c) 0 0 := by
  have h : sh (7 - j.val) (sh (j.val + 1) c) = c := sh_sh _ _ c (by have := j.isLt; omega)
  have e : pay m (.agr j) (sh (j.val + 1) c) 0 0 = blk (sh (j.val + 1) c) c (outV m) := by
    show blk (sh (j.val + 1) c) (sh (7 - j.val) (sh (j.val + 1) c)) (outV m) = _
    exact congrArg (fun d => (blk (sh (j.val + 1) c) d (outV m) : sProp 𝕄)) h
  rw [e, blk_written]
  iintro ⟨H, -⟩
  iexact H

theorem agSend_spec (c : Dev nD) (j : Fin 7) (n : Dev nD) (hn : n = sh (j.val + 1) c) (l : List Due) :
    iprop(records m K ∗ (accM.view.loc (c : Thread nD τ) ↦[accM.view.set]{Transfers.shareTok fullShare 7 j} finV m c)
        ∗ (∃ f, blk (sh (j.val + 1) c) c f) ∗ ow c (⟨j.val + 1, .agr j, 0, N⟩ :: l)
        ∗ dutyTok ER (kcell (c, .ags j)) 0 0 ∗ dutyTok ER (kcell (sh (j.val + 1) c, .agr j)) 0 0)
      ⊢ runs c (agSend (F := F) c n j) iprop(cred (tallyAt (kcell (c, .ags j)) 0 N) ∗ ow c l) := by
  subst hn
  iintro ⟨#HR, Ha, ⟨%f, Hb⟩, HO, T1, T2⟩
  ihave R1 := (reached_at m K (c, .ags j)) $$ HR
  ihave R2 := (reached_at m K (sh (j.val + 1) c, .agr j)) $$ HR
  unfold agSend
  iapply (show _ ⊢ _ from send_spec m K c (j.val + 1) _ rfl (.ags j) (.agr j) 0 0 accM (ownM c) (N_own c) rfl Nat.zero_lt_one Nat.zero_lt_one rfl rfl
    (Transfers.shareTok fullShare 7 j) (finV m c) f iprop(emp) (Entails.of_eq rfl) ?pay l)
  case pay =>
    rw [View.read_whole]
    exact ag_pay m c j f
  iframe HR Ha Hb HO T1 T2 R1 R2

theorem agWaitS_spec (c : Dev nD) (j : Fin 7) :
    iprop(records m K ∗ levAts L lv ∗ cred (tallyAt (kcell (c, .ags j)) 0 N) ∗ atPos ER (kcell (c, .ags j)) 0 ∅ 0 ∗ ow c [])
      ⊢ runs c (agWaitS (F := F) c j) iprop(ow c [] ∗ atPos ER (kcell (c, .ags j)) 1 ∅ 0
          ∗ (accM.view.loc (c : Thread nD τ) ↦[accM.view.set]{Transfers.shareTok fullShare 7 j} finV m c)) := by
  unfold agWaitS
  refine (wait_spec m K c (.ags j) 0 0 _ _ (wpE_waitDma2_eq 𝒱₀ (c : Thread nD τ) none Set.univ) N_eq Nat.zero_lt_one rfl (by decide) []
    (above_nil _)).trans (wp_mono frame (wpE (defs₀ (F := F)) 𝒱₀ (c : Thread nD τ) none) Set.univ (fun _ => ?_))
  iintro ⟨HO, Hat, -, Hp⟩
  iframe HO Hat
  iapply (Entails.of_eq (show pay m (.ags j) c 0 0
    = (accM.view.loc (c : Thread nD τ) ↦[accM.view.set]{Transfers.shareTok fullShare 7 j} finV m c) from rfl)) $$ Hp

theorem agWaitR_spec (c : Dev nD) (j : Fin 7) :
    iprop(records m K ∗ levAts L lv ∗ cred (tallyAt (kcell (c, .agr j)) 0 N) ∗ atPos ER (kcell (c, .agr j)) 0 ∅ 0 ∗ ow c [])
      ⊢ runs c (agWaitR (F := F) c j) iprop(ow c [] ∗ atPos ER (kcell (c, .agr j)) 1 ∅ 0 ∗ blk c (sh (7 - j.val) c) (outV m)) := by
  unfold agWaitR
  refine (wait_spec m K c (.agr j) 0 0 _ _ (wpE_waitDma2_eq 𝒱₀ (c : Thread nD τ) none Set.univ) (N_own c) Nat.zero_lt_one rfl (by decide) []
    (above_nil _)).trans (wp_mono frame (wpE (defs₀ (F := F)) 𝒱₀ (c : Thread nD τ) none) Set.univ (fun _ => ?_))
  iintro ⟨HO, Hat, -, Hp⟩
  iframe HO Hat
  iapply (Entails.of_eq (show pay m (.agr j) c 0 0 = blk c (sh (7 - j.val) c) (outV m) from rfl)) $$ Hp

/-! ## All of it -/

/-- What the `j`-th send and its waits need. -/
def agToks (c : Dev nD) (j : Fin 7) : sProp 𝕄 :=
  iprop(dutyTok ER (kcell (c, .ags j)) 0 0 ∗ dutyTok ER (kcell (sh (j.val + 1) c, .agr j)) 0 0 ∗ cred (tallyAt (kcell (c, .agr j)) 0 N))
def agPos (c : Dev nD) (r : ℕ) (j : Fin 7) : sProp 𝕄 :=
  iprop(atPos ER (kcell (c, .ags j)) r ∅ 0 ∗ atPos ER (kcell (c, .agr j)) r ∅ 0)

set_option maxHeartbeats 1600000 in
theorem gatherAll_spec (c : Dev nD) :
    iprop(records m K ∗ levAts L lv ∗ pts accM c (finV m c) ∗ (∃ f, blk c c f) ∗ (bigSep Finset.univ fun j : Fin 7 => iprop(∃ f, blk (sh (j.val + 1) c) c f))
        ∗ semVal ((c : Thread nD τ), .dma copyS) 0 ∗ (bigSep Finset.univ fun j : Fin 7 => agToks c j) ∗ (bigSep Finset.univ fun j : Fin 7 => agPos c 0 j)
        ∗ ow c agDues)
      ⊢ runs c (gatherAll (F := F) c)
          iprop(pts accM c (finV m c) ∗ blk c c (outV m) ∗ (bigSep Finset.univ fun j : Fin 7 => blk c (sh (7 - j.val) c) (outV m))
            ∗ semVal ((c : Thread nD τ), .dma copyS) 0 ∗ (bigSep Finset.univ fun j : Fin 7 => agPos c 1 j) ∗ ow c []) := by
  rw [bigSep7 fun j : Fin 7 => iprop(∃ f, blk (sh (j.val + 1) c) c f), bigSep7 (agToks c), bigSep7 (agPos c 0), bigSep7 (agPos c 1),
    bigSep7 fun j : Fin 7 => blk c (sh (7 - j.val) c) (outV m)]
  unfold agToks agPos agDues
  iintro ⟨#HR, #Hlev, Ha, Hb, ⟨B0, B1, B2, B3, B4, B5, B6⟩, Hv, ⟨⟨S0, T0, C0⟩, ⟨S1, T1, C1⟩, ⟨S2, T2, C2⟩, ⟨S3, T3, C3⟩, ⟨S4, T4, C4⟩, ⟨S5, T5, C5⟩, ⟨S6, T6, C6⟩⟩, ⟨⟨P0, Q0⟩, ⟨P1, Q1⟩, ⟨P2, Q2⟩, ⟨P3, Q3⟩, ⟨P4, Q4⟩, ⟨P5, Q5⟩, ⟨P6, Q6⟩⟩, HO⟩
  unfold gatherAll
  iapply (step (ownCopy_spec c _ (agDues_above.mono (Nat.zero_le _)) (finV m c))) $$ [Ha Hb Hv HO]
  · iframe Ha Hb Hv Hlev
    iexact HO
  iintro ⟨Ha, ⟨%f, Hb⟩, Hv, HO⟩
  ihave Hb := (Entails.of_eq (blk_written m c c f)) $$ Hb
  ihave ⟨Hdrop, Htoks⟩ := (Transfers.pointsTo_toks_split fullShare 7) $$ Ha
  ihave ⟨A0, A1, A2, A3, A4, A5, A6⟩ := (Entails.of_eq (bigSep7 fun i : Fin 7 =>
    (accM.view.loc (c : Thread nD τ) ↦[accM.view.set]{Transfers.shareTok fullShare 7 i} finV m c : sProp 𝕄))) $$ Htoks
  iapply (step (agSend_spec m K c 0 _ (Fin.ext (k0_dev21_eq c)) _)) $$ [A0 B0 HO S0 T0]
  · iframe HR A0 B0 S0 T0
    iexact HO
  iintro ⟨D0, HO⟩
  iapply (step (agSend_spec m K c 1 _ (Fin.ext (k0_dev22_eq c)) _)) $$ [A1 B1 HO S1 T1]
  · iframe HR A1 B1 S1 T1
    iexact HO
  iintro ⟨D1, HO⟩
  iapply (step (agSend_spec m K c 2 _ (Fin.ext (k0_dev23_eq c)) _)) $$ [A2 B2 HO S2 T2]
  · iframe HR A2 B2 S2 T2
    iexact HO
  iintro ⟨D2, HO⟩
  iapply (step (agSend_spec m K c 3 _ (Fin.ext (k0_dev24_eq c)) _)) $$ [A3 B3 HO S3 T3]
  · iframe HR A3 B3 S3 T3
    iexact HO
  iintro ⟨D3, HO⟩
  iapply (step (agSend_spec m K c 4 _ (Fin.ext (k0_dev25_eq c)) _)) $$ [A4 B4 HO S4 T4]
  · iframe HR A4 B4 S4 T4
    iexact HO
  iintro ⟨D4, HO⟩
  iapply (step (agSend_spec m K c 5 _ (Fin.ext (k0_dev26_eq c)) _)) $$ [A5 B5 HO S5 T5]
  · iframe HR A5 B5 S5 T5
    iexact HO
  iintro ⟨D5, HO⟩
  iapply (step (agSend_spec m K c 6 _ (Fin.ext (k0_dev27_eq c)) _)) $$ [A6 B6 HO S6 T6]
  · iframe HR A6 B6 S6 T6
    iexact HO
  iintro ⟨D6, HO⟩
  iapply (step (agWaitS_spec m K c 0)) $$ [D0 P0 HO]
  · iframe HR Hlev D0 P0
    iexact HO
  iintro ⟨HO, P0, A0⟩
  iapply (step (agWaitS_spec m K c 1)) $$ [D1 P1 HO]
  · iframe HR Hlev D1 P1
    iexact HO
  iintro ⟨HO, P1, A1⟩
  iapply (step (agWaitS_spec m K c 2)) $$ [D2 P2 HO]
  · iframe HR Hlev D2 P2
    iexact HO
  iintro ⟨HO, P2, A2⟩
  iapply (step (agWaitS_spec m K c 3)) $$ [D3 P3 HO]
  · iframe HR Hlev D3 P3
    iexact HO
  iintro ⟨HO, P3, A3⟩
  iapply (step (agWaitS_spec m K c 4)) $$ [D4 P4 HO]
  · iframe HR Hlev D4 P4
    iexact HO
  iintro ⟨HO, P4, A4⟩
  iapply (step (agWaitS_spec m K c 5)) $$ [D5 P5 HO]
  · iframe HR Hlev D5 P5
    iexact HO
  iintro ⟨HO, P5, A5⟩
  iapply (step (agWaitS_spec m K c 6)) $$ [D6 P6 HO]
  · iframe HR Hlev D6 P6
    iexact HO
  iintro ⟨HO, P6, A6⟩
  iapply (step (agWaitR_spec m K c 0)) $$ [C0 Q0 HO]
  · iframe HR Hlev C0 Q0 HO
  iintro ⟨HO, Q0, B0⟩
  iapply (step (agWaitR_spec m K c 1)) $$ [C1 Q1 HO]
  · iframe HR Hlev C1 Q1 HO
  iintro ⟨HO, Q1, B1⟩
  iapply (step (agWaitR_spec m K c 2)) $$ [C2 Q2 HO]
  · iframe HR Hlev C2 Q2 HO
  iintro ⟨HO, Q2, B2⟩
  iapply (step (agWaitR_spec m K c 3)) $$ [C3 Q3 HO]
  · iframe HR Hlev C3 Q3 HO
  iintro ⟨HO, Q3, B3⟩
  iapply (step (agWaitR_spec m K c 4)) $$ [C4 Q4 HO]
  · iframe HR Hlev C4 Q4 HO
  iintro ⟨HO, Q4, B4⟩
  iapply (step (agWaitR_spec m K c 5)) $$ [C5 Q5 HO]
  · iframe HR Hlev C5 Q5 HO
  iintro ⟨HO, Q5, B5⟩
  iapply (step_last (agWaitR_spec m K c 6)) $$ [C6 Q6 HO]
  · iframe HR Hlev C6 Q6 HO
  iintro ⟨HO, Q6, B6⟩
  isplitl [Hdrop A0 A1 A2 A3 A4 A5 A6]
  · iapply (Transfers.pointsTo_toks_join fullShare 7)
    iframe Hdrop
    iapply (Entails.of_eq (bigSep7 fun i : Fin 7 =>
      (accM.view.loc (c : Thread nD τ) ↦[accM.view.set]{Transfers.shareTok fullShare 7 i} finV m c : sProp 𝕄)).symm)
    iframe A0 A1 A2 A3 A4 A5 A6
  iframe Hb B0 B1 B2 B3 B4 B5 B6 Hv P0 P1 P2 P3 P4 P5 P6 Q0 Q1 Q2 Q3 Q4 Q5 Q6
  iexact HO

end Cert.RingProof

end
-- ==== Proof.Whole.lean ====
/-
# The whole body

The result's buffer is its eight row blocks. The body of the kernel on one device: from its buffers, its positions, the
tokens of the duties it pays and the credits it waits with, to its buffers again, the result in place, and every
semaphore at zero.
-/
module

public import proofs.«01_k».proof.Proof.Gather
public import Idealize.ShloMosaic.Lib.Pipeline.BigSepL

@[expose] public section

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Role → ℕ)

/-! ## The result by row blocks -/

theorem mem_own (e : Dev nD) (i : S4096x8192.Idx) : i ∈ (ownM e).view.set ↔ (i 0).val / 512 = (e.val + 1) % 8 := by
  have h0 := idx2_lt0 i
  have h1 := idx2_lt1 i
  show i ∈ ((View.whole main_v1).slice (Rect.unit (s := S4096x8192) (k0_off3 e) S512x8192.size (k0_off3_inb e))).set ↔ _
  rw [View.set_slice_whole]
  refine Rect.mem_set_unit.trans ?_
  rw [k0_off3_eq]
  refine Iff.trans Fin.forall_fin_two ?_
  show (512 * ((e.val + 1) % 8) ≤ (i 0).val ∧ (i 0).val < 512 * ((e.val + 1) % 8) + 512) ∧ (0 ≤ (i 1).val ∧ (i 1).val < 0 + 8192) ↔ _
  omega

theorem own_disjoint (e e' : Dev nD) (hne : e ≠ e') : Disjoint ((ownM e).view.set : Finset S4096x8192.Idx) (ownM e').view.set := by
  refine Finset.disjoint_left.mpr fun i hi hi' => hne (Fin.ext ?_)
  have h1 := (mem_own e i).mp hi
  have h2 := (mem_own e' i).mp hi'
  have h3 : e.val < 8 := e.isLt
  have h4 : e'.val < 8 := e'.isLt
  omega

theorem own_cover (i : S4096x8192.Idx) : ∃ e : Dev nD, i ∈ ((ownM e).view.set : Finset S4096x8192.Idx) := by
  have h0 := idx2_lt0 i
  refine ⟨⟨((i 0).val / 512 + 7) % 8, Nat.mod_lt _ (by decide)⟩, (mem_own _ i).mpr ?_⟩
  show (i 0).val / 512 = (((i 0).val / 512 + 7) % 8 + 1) % 8
  omega

theorem out_blocks (c : Dev nD) (f : Buf (Elt F) ((c : Thread nD τ).loc main_v1)) :
    (((c : Thread nD τ).loc main_v1) ↦{fullShare} f : sProp 𝕄) = bigSep Finset.univ fun e : Dev nD => blk c e f := by
  refine Eq.trans (congrArg (fun S => (((c : Thread nD τ).loc main_v1) ↦[S]{fullShare} f : sProp 𝕄)) ?_)
    (pointsTo_biUnion (Ix := ℕ) (Name := ℕ) (U := UU) (Lvl := ℕ) (ℓ := (c : Thread nD τ).loc main_v1) (q := fullShare) (f := f) Finset.univ
      (fun e : Dev nD => (ownM e).view.set) fun e _ e' _ hne => own_disjoint e e' hne)
  refine (Finset.eq_univ_iff_forall.mpr fun i => ?_).symm
  obtain ⟨e, he⟩ := own_cover i
  exact Finset.mem_biUnion.mpr ⟨e, Finset.mem_univ _, he⟩

/-- The devices from `c` on, up and down. -/
theorem devs_up (c : Dev nD) (Φ : Dev nD → sProp 𝕄) :
    bigSep Finset.univ Φ = iprop(Φ c ∗ bigSep Finset.univ fun j : Fin 7 => Φ (sh (j.val + 1) c)) := by
  rw [bigSep7, bigSep_univ_eq_bigSepL [c, sh 1 c, sh 2 c, sh 3 c, sh 4 c, sh 5 c, sh 6 c, sh 7 c] (by revert c; decide) (by revert c; decide)]
  rfl
theorem devs_down (c : Dev nD) (Φ : Dev nD → sProp 𝕄) :
    bigSep Finset.univ Φ = iprop(Φ c ∗ bigSep Finset.univ fun j : Fin 7 => Φ (sh (7 - j.val) c)) := by
  rw [bigSep7, bigSep_univ_eq_bigSepL [c, sh 7 c, sh 6 c, sh 5 c, sh 4 c, sh 3 c, sh 2 c, sh 1 c] (by revert c; decide) (by revert c; decide)]
  rfl

/-! ## The cells of a device -/

theorem sep_assoc_eq (P Q R : sProp 𝕄) : iprop((P ∗ Q) ∗ R) = iprop(P ∗ Q ∗ R) := BI.Entails.antisymm BI.sep_assoc BI.sep_assoc'

theorem roles (Φ : Role → sProp 𝕄) : bigSep Finset.univ Φ
    = iprop(Φ .bar ∗ Φ .send ∗ Φ .recv ∗ Φ .tsend ∗ Φ .trecv ∗ bigSep Finset.univ fun j : Fin 7 => iprop(Φ (.ags j) ∗ Φ (.agr j))) := by
  rw [bigSep_sep', bigSep7, bigSep7, bigSep_univ_eq_bigSepL ([.bar, .send, .recv, .tsend, .trecv] ++ ([.ags 0, .ags 1, .ags 2, .ags 3, .ags 4, .ags 5, .ags 6]
    ++ [.agr 0, .agr 1, .agr 2, .agr 3, .agr 4, .agr 5, .agr 6])) (by decide) (by decide), bigSepL_append, bigSepL_append]
  show iprop((Φ .bar ∗ Φ .send ∗ Φ .recv ∗ Φ .tsend ∗ Φ .trecv)
    ∗ (Φ (.ags 0) ∗ Φ (.ags 1) ∗ Φ (.ags 2) ∗ Φ (.ags 3) ∗ Φ (.ags 4) ∗ Φ (.ags 5) ∗ Φ (.ags 6))
    ∗ (Φ (.agr 0) ∗ Φ (.agr 1) ∗ Φ (.agr 2) ∗ Φ (.agr 3) ∗ Φ (.agr 4) ∗ Φ (.agr 5) ∗ Φ (.agr 6))) = _
  simp only [sep_assoc_eq]

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Past its last round every cell closes, its counter at zero. -/
theorem close_cells (c : Dev nD) :
    iprop(records m K ∗ bigSep Finset.univ fun ρ : Role => atPos ER (kcell (c, ρ)) (roundsOf ρ) ∅ 0)
      ⊢ |={Set.univ}=> (bigSep Finset.univ fun ρ : Role => semVal (kcell (c, ρ)) 0 : sProp 𝕄) := by
  refine (with_persistent (Ψ := fun ρ : Role => iprop(|={Set.univ}=> semVal (kcell (c, ρ)) 0)) fun ρ _ => ?_).trans (bigSep_fupd _ _)
  refine (BI.sep_mono (inv_at m K (c, ρ)) (BI.Entails.refl _)).trans ?_
  exact Rounds.cell_close ER (rd m) (Set.mem_univ _) (fun h => h) (fun r hr => duties_ge m c ρ r hr)

/-! ## The body -/

def scratch (c : Dev nD) : sProp 𝕄 :=
  iprop((∃ f, pts xbM c f) ∗ (∃ f, pts wbM c f) ∗ (∃ f, pts accM c f) ∗ (∃ f, pts recvM c f) ∗ (∃ f, pts pbufM c f)
    ∗ (∃ f, pts stxM c f) ∗ (∃ f, pts stwM c f) ∗ (∃ f, pts tsrcM c f) ∗ (∃ f, pts tdstM c f))

/-- The tokens of the duties a device pays, and the credits it waits with. -/
def devToks (c : Dev nD) : sProp 𝕄 :=
  iprop((bigSep Finset.univ fun j : Fin 7 => dutyTok ER (kcell (sh (j.val + 1) c, .bar)) 0 (Fin.rev j))
    ∗ ringToks c 6 ∗ (bigSep Finset.univ fun j : Fin 7 => agToks c j) ∗ cred (tallyAt (kcell (c, .bar)) 0 7))

/-- The operands and the scales, as they are. -/
def inputs (c : Dev nD) : sProp 𝕄 :=
  iprop(((c : Thread nD τ).loc main_arg0 ↦{fullShare} m ((c : Thread nD τ).loc main_arg0))
    ∗ ((c : Thread nD τ).loc main_arg1 ↦{fullShare} m ((c : Thread nD τ).loc main_arg1))
    ∗ pts sxM c (sxIn m c) ∗ pts swM c (swIn m c))

theorem bar_given (c : Dev nD) : (bigSep Finset.univ fun k : Fin 7 => pay m .bar c 0 k)
    ⊢ iprop((bigSep Finset.univ fun k : Fin 7 => iprop(∃ f, blk (sh (k.val + 1) c) c f)) ∗ ∃ f, pts recvM (rgt c) f) := by
  rw [show (fun k : Fin 7 => pay m .bar c 0 k) = fun k : Fin 7 => iprop((∃ f, blk (sh (k.val + 1) c) c f)
      ∗ (if k = 0 then iprop(∃ f, pts recvM (rgt c) f) else iprop(emp))) from rfl, bigSep_sep',
    bigSep7 fun k : Fin 7 => (if k = 0 then iprop(∃ f, pts recvM (rgt c) f) else iprop(emp)), if_pos rfl]
  iintro ⟨HA, H0, -⟩
  iframe HA H0

theorem hs_intro (c : Dev nD) (f : Buf (Elt F) ((c : Thread nD τ).loc main_v1)) :
    iprop((bigSep Finset.univ fun j : Fin 7 => dutyTok ER (kcell (sh (j.val + 1) c, .bar)) 0 (Fin.rev j))
      ∗ bigSep Finset.univ fun j : Fin 7 => blk c (sh (j.val + 1) c) f) ⊢ (bigSep Finset.univ fun j : Fin 7 => hsIn c j : sProp 𝕄) := by
  rw [← bigSep_sep']
  refine bigSep_mono fun j _ => ?_
  unfold hsIn
  show (_ : sProp 𝕄) ⊢ _
  iintro ⟨H, Hb⟩
  iframe H
  iexists f
  iexact Hb

set_option maxHeartbeats 800000 in
theorem body_spec (c : Dev nD) :
    iprop(records m K ∗ levAts L lv ∗ devToks c ∗ (bigSep Finset.univ fun ρ : Role => atPos ER (kcell (c, ρ)) 0 ∅ 0)
        ∗ scratch c ∗ inputs m c ∗ (∃ f, ((c : Thread nD τ).loc main_v1) ↦{fullShare} f)
        ∗ semVal ((c : Thread nD τ), .dma copyS) 0 ∗ ow c allDues)
      ⊢ runs c (bodyProg (F := F))
          iprop(scratch c ∗ inputs m c ∗ (((c : Thread nD τ).loc main_v1) ↦{fullShare} outV m)
            ∗ semVal ((c : Thread nD τ), .dma copyS) 0 ∗ (bigSep Finset.univ fun ρ : Role => semVal (kcell (c, ρ)) 0) ∗ ow c []) := by
  refine BI.Entails.trans ?_ (wp_fupd frame (wpE (defs₀ (F := F)) 𝒱₀ (c : Thread nD τ) none) Set.univ _ _)
  show (_ : sProp 𝕄) ⊢ _
  rw [roles]
  unfold devToks scratch inputs
  iintro ⟨#HR, #Hlev, ⟨Tb, Tr, Tg, Cb⟩, ⟨Pb, Ps, Pr, Pts, Ptr, Pg⟩, ⟨Hxb, Hwb, Ha, Hrec, Hp, Hsx, Hsw, Hts, Htd⟩, ⟨H0, H1, H2, H3⟩, ⟨%f, Hout⟩, Hv, HO⟩
  ihave Hout := (Entails.of_eq ((out_blocks c f).trans (devs_up c _))) $$ Hout
  icases Hout with ⟨Bown, Bs⟩
  ihave Hhs := (hs_intro c f) $$ [Tb Bs]
  · iframe Tb Bs
  unfold bodyProg
  simp only [Prog.lift, Prog.bind_op, Prog.bind_ret, wp_deviceId]
  iapply (step (handshake_spec m K c)) $$ [Hhs Hrec Cb Pb HO]
  · iframe HR Hlev Hhs Hrec Cb Pb HO
  iintro ⟨HO, Pb, Hbar⟩
  ihave Hbar := (bar_given m c) $$ Hbar
  icases Hbar with ⟨Bs, Hrec⟩
  iapply (step (stageAll_spec m c _ ((ringDues_above 6 (le_refl _)).mono (Nat.zero_le _)))) $$ [H0 H1 Hsx Hsw Hxb Hwb Hv HO]
  · unfold staging
    iframe H0 H1 Hsx Hsw Hv HO Hlev
    isplitl [Hxb]
    · iapply (known_start xbM c (xbAt m c) _ (fun y => Nat.not_lt_zero _)) $$ Hxb
    · iapply (known_start wbM c (wbAt m c) _ (fun y => Nat.not_lt_zero _)) $$ Hwb
  unfold staging
  iintro ⟨H0, H1, Hsx, Hsw, Hxb, Hwb, Hv, HO, -⟩
  ihave Hop := (operands_intro m c) $$ [Hxb Hwb]
  · iframe Hxb Hwb
  iapply (step (ringAll_spec m K c)) $$ [Ps Pr Pts Ptr Tr Hop Ha Hp Hts Htd Hrec H2 H3 HO]
  · iframe HR Hlev Ps Pr Pts Ptr Tr Hop Ha Hp Hts Htd Hrec H2 H3 HO
  iintro ⟨⟨Ps, Pr, Pts, Ptr⟩, Hop, Ha, Hp, Hts, Htd, Hrec, H2, H3, HO⟩
  iapply (step_last (gatherAll_spec m K c)) $$ [Ha Bown Bs Hv Tg Pg HO]
  · iframe HR Hlev Ha Bs Hv Tg HO
    isplitl [Bown]
    · iexists f
      iexact Bown
    · iexact Pg
  iintro ⟨Ha, Bown, Bs, Hv, Pg, HO⟩
  imod (close_cells m K c) $$ [Pb Ps Pr Pts Ptr Pg] with Hz
  · iframe HR
    rw [roles]
    iframe Pb Ps Pr Pts Ptr
    iexact Pg
  imodintro
  unfold operands
  icases Hop with ⟨⟨%g0, -, Hxb⟩, ⟨%g1, -, Hwb⟩⟩
  rw [(out_blocks c (outV m)).trans (devs_down c _)]
  iframe Hrec Hp Hsx Hsw Hts Htd H0 H1 H2 H3 Bown Bs Hv Hz HO
  isplitl [Hxb]
  · iexists g0
    iexact Hxb
  isplitl [Hwb]
  · iexists g1
    iexact Hwb
  iexists _
  iexact Ha

end Cert.RingProof

end
-- ==== Proof.Deal.lean ====
/-
# What the launch deals out

The tokens of all duties are made at the launch, each device's own cells' together; every token is then handed to the
device that pays the duty, a number of places before. The credits follow from what each device owes. The semaphores of
a device are its cells' and the one of its local copies.
-/
module

public import proofs.«01_k».proof.Proof.Whole

@[expose] public section

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The tokens -/

/-- The duties of a device's cells. -/
inductive Tok : Type where
  | bar (j : Fin 7) | send (s : Fin 7) | recv (s : Fin 7) | tsend (s : Fin 6) | trecv (s : Fin 6) | ags (j : Fin 7) | agr (j : Fin 7)
deriving DecidableEq, Fintype

namespace Tok
def role : Tok → Role
  | bar _ => .bar | send _ => .send | recv _ => .recv | tsend _ => .tsend | trecv _ => .trecv | ags j => .ags j | agr j => .agr j
def round : Tok → ℕ
  | bar _ => 0 | send s => s.val | recv s => s.val | tsend s => s.val | trecv s => s.val | ags _ => 0 | agr _ => 0
def duty : Tok → Fin 7
  | bar j => Fin.rev j | _ => 0
/-- How many places after its payer the cell's device is. -/
def off : Tok → ℕ
  | bar j => j.val + 1 | send _ => 0 | recv _ => 1 | tsend _ => 0 | trecv _ => 7 | ags _ => 0 | agr j => j.val + 1
theorem off_le (t : Tok) : t.off ≤ 8 := by
  cases t <;> simp only [off] <;> omega
theorem ext {t t' : Tok} (h1 : t.role = t'.role) (h2 : t.round = t'.round) (h3 : t.duty = t'.duty) : t = t' := by
  cases t <;> cases t' <;> simp only [role, reduceCtorEq, Role.ags.injEq, Role.agr.injEq] at h1 <;>
    simp only [round, duty, Fin.rev_inj] at h2 h3 <;> first | (rw [h1]) | (rw [h3]) | (rw [Fin.ext h2])
end Tok

abbrev tokOf (ct : Dev nD × Tok) : GSem nD τ sig × ℕ × Fin 7 := (kcell (ct.1, ct.2.role), ct.2.round, ct.2.duty)
theorem tokOf_injective : Function.Injective tokOf := by
  rintro ⟨c, t⟩ ⟨c', t'⟩ h
  have h1 := kcell_injective (Prod.mk.inj h).1
  have h2 := (Prod.mk.inj (Prod.mk.inj h).2)
  exact Prod.ext (Prod.mk.inj h1).1 (Tok.ext (Prod.mk.inj h1).2 h2.1 h2.2)

def allCells : Finset (GSem nD τ sig) := Finset.univ.map ⟨kcell, kcell_injective⟩
def allToks : Finset (GSem nD τ sig × ℕ × Fin 7) := Finset.univ.map ⟨tokOf, tokOf_injective⟩

/-- The tokens made for a device's cells, and the tokens it pays with. -/
def madeToks (c : Dev nD) : sProp 𝕄 := bigSep Finset.univ fun t : Tok => dutyTok ER (kcell (c, t.role)) t.round t.duty
def paidToks (c : Dev nD) : sProp 𝕄 := bigSep Finset.univ fun t : Tok => dutyTok ER (kcell (sh t.off c, t.role)) t.round t.duty

/-- Every device so many places on, token by token. -/
def shT : Dev nD × Tok ≃ Dev nD × Tok where
  toFun p := (sh p.2.off p.1, p.2)
  invFun p := (sh (8 - p.2.off) p.1, p.2)
  left_inv p := Prod.ext (sh_sh _ _ p.1 (by have := p.2.off_le; show (8 - p.2.off + p.2.off) % 8 = 0; omega)) rfl
  right_inv p := Prod.ext (sh_sh _ _ p.1 (by have := p.2.off_le; show (p.2.off + (8 - p.2.off)) % 8 = 0; omega)) rfl

theorem toks_around : (bigSep Finset.univ fun c : Dev nD => (madeToks c : sProp 𝕄)) = bigSep Finset.univ fun c : Dev nD => paidToks c := by
  unfold madeToks paidToks
  rw [← bigSep_univ_prod fun p : Dev nD × Tok => (dutyTok ER (kcell (p.1, p.2.role)) p.2.round p.2.duty : sProp 𝕄),
    bigSep_univ_equiv shT, bigSep_univ_prod]
  rfl

theorem toks_split (Φ : Tok → sProp 𝕄) : bigSep Finset.univ Φ
    = iprop((Φ (.bar 0) ∗ Φ (.bar 1) ∗ Φ (.bar 2) ∗ Φ (.bar 3) ∗ Φ (.bar 4) ∗ Φ (.bar 5) ∗ Φ (.bar 6))
      ∗ (Φ (.send 0) ∗ Φ (.send 1) ∗ Φ (.send 2) ∗ Φ (.send 3) ∗ Φ (.send 4) ∗ Φ (.send 5) ∗ Φ (.send 6))
      ∗ (Φ (.recv 0) ∗ Φ (.recv 1) ∗ Φ (.recv 2) ∗ Φ (.recv 3) ∗ Φ (.recv 4) ∗ Φ (.recv 5) ∗ Φ (.recv 6))
      ∗ (Φ (.tsend 0) ∗ Φ (.tsend 1) ∗ Φ (.tsend 2) ∗ Φ (.tsend 3) ∗ Φ (.tsend 4) ∗ Φ (.tsend 5))
      ∗ (Φ (.trecv 0) ∗ Φ (.trecv 1) ∗ Φ (.trecv 2) ∗ Φ (.trecv 3) ∗ Φ (.trecv 4) ∗ Φ (.trecv 5))
      ∗ (Φ (.ags 0) ∗ Φ (.ags 1) ∗ Φ (.ags 2) ∗ Φ (.ags 3) ∗ Φ (.ags 4) ∗ Φ (.ags 5) ∗ Φ (.ags 6))
      ∗ (Φ (.agr 0) ∗ Φ (.agr 1) ∗ Φ (.agr 2) ∗ Φ (.agr 3) ∗ Φ (.agr 4) ∗ Φ (.agr 5) ∗ Φ (.agr 6))) := by
  rw [bigSep_univ_eq_bigSepL ([.bar 0, .bar 1, .bar 2, .bar 3, .bar 4, .bar 5, .bar 6]
    ++ ([.send 0, .send 1, .send 2, .send 3, .send 4, .send 5, .send 6]
    ++ ([.recv 0, .recv 1, .recv 2, .recv 3, .recv 4, .recv 5, .recv 6]
    ++ ([.tsend 0, .tsend 1, .tsend 2, .tsend 3, .tsend 4, .tsend 5]
    ++ ([.trecv 0, .trecv 1, .trecv 2, .trecv 3, .trecv 4, .trecv 5]
    ++ ([.ags 0, .ags 1, .ags 2, .ags 3, .ags 4, .ags 5, .ags 6]
    ++ [.agr 0, .agr 1, .agr 2, .agr 3, .agr 4, .agr 5, .agr 6]))))))
    (by decide) (by decide), bigSepL_append, bigSepL_append, bigSepL_append, bigSepL_append, bigSepL_append, bigSepL_append]
  rfl

/-! ## The credits -/

def creds (c : Dev nD) : List Due → sProp 𝕄
  | [] => iprop(emp)
  | x :: l => iprop(creds c l ∗ cred (tallyAt (kcell (c, x.role)) x.ix x.n))

theorem creds_of_launch (c : Dev nD) : ∀ l : List Due, (∀ x ∈ l, x.off ≤ 8) →
    ((Pipeline.launchCred (fun d => sumDues d l) c : sProp 𝕄) ⊢ creds c l)
  | [], _ => Entails.of_eq (Pipeline.launchCred_zero c)
  | x :: l, h => by
    have hx : x.off ≤ 8 := h x List.mem_cons_self
    refine (Entails.of_eq (Pipeline.launchCred_add (fun d => sumDues d l) (fun d => dueT d x) c)).trans ?_
    exact BI.sep_mono (creds_of_launch c l fun y hy => h y (List.mem_cons_of_mem _ hy))
      (Pipeline.launchCred_tallyAt (semOf x.role) (sh x.off) (sh (8 - x.off)) (fun d => sh_sh _ _ d (by omega)) (fun d => sh_sh _ _ d (by omega))
        x.ix x.n c)

theorem allDues_off : ∀ x ∈ allDues, x.off ≤ 8 := by
  intro x hx
  simp only [allDues, ringDues, agDues, List.mem_cons, List.not_mem_nil, or_false] at hx
  revert x
  simp only [forall_eq_or_imp, forall_eq]
  decide

theorem bar_credit (c : Dev nD) :
    iprop(cred (tallyAt (kcell (c, .bar)) 0 1) ∗ cred (tallyAt (kcell (c, .bar)) 0 1) ∗ cred (tallyAt (kcell (c, .bar)) 0 1)
      ∗ cred (tallyAt (kcell (c, .bar)) 0 1) ∗ cred (tallyAt (kcell (c, .bar)) 0 1) ∗ cred (tallyAt (kcell (c, .bar)) 0 1)
      ∗ cred (tallyAt (kcell (c, .bar)) 0 1)) = (cred (tallyAt (kcell (c, .bar)) 0 7) : sProp 𝕄) := by
  have h (n : ℕ) : iprop(cred (tallyAt (kcell (c, .bar)) 0 1) ∗ cred (tallyAt (kcell (c, .bar)) 0 n))
      = (cred (tallyAt (kcell (c, .bar)) 0 (1 + n)) : sProp 𝕄) := by
    rw [← tallyAt_add]
    exact (BI.Entails.antisymm (cred_add _ _).1 (cred_add _ _).2).symm
  rw [h, h, h, h, h, h]

theorem sh_zero (c : Dev nD) : sh 0 c = c := by revert c; decide

set_option maxHeartbeats 1600000 in
theorem devToks_intro (c : Dev nD) : iprop(paidToks c ∗ creds c allDues) ⊢ (devToks c : sProp 𝕄) := by
  unfold paidToks devToks
  rw [toks_split, ringToks_eq, bigSep7, bigSep7, ← bar_credit]
  simp only [Tok.off, sh_zero]
  unfold sendToks tokenToks agToks
  simp only [creds, allDues, ringDues, agDues]
  iintro ⟨⟨⟨B0, B1, B2, B3, B4, B5, B6⟩, ⟨S0, S1, S2, S3, S4, S5, S6⟩, ⟨R0, R1, R2, R3, R4, R5, R6⟩, ⟨P0, P1, P2, P3, P4, P5⟩,
    ⟨Q0, Q1, Q2, Q3, Q4, Q5⟩, ⟨X0, X1, X2, X3, X4, X5, X6⟩, ⟨Y0, Y1, Y2, Y3, Y4, Y5, Y6⟩⟩, HC⟩
  icases HC with ⟨HC, C0⟩
  icases HC with ⟨HC, C1⟩
  icases HC with ⟨HC, C2⟩
  icases HC with ⟨HC, C3⟩
  icases HC with ⟨HC, C4⟩
  icases HC with ⟨HC, C5⟩
  icases HC with ⟨HC, C6⟩
  icases HC with ⟨HC, D0⟩
  icases HC with ⟨HC, E0⟩
  icases HC with ⟨HC, D1⟩
  icases HC with ⟨HC, E1⟩
  icases HC with ⟨HC, D2⟩
  icases HC with ⟨HC, E2⟩
  icases HC with ⟨HC, D3⟩
  icases HC with ⟨HC, E3⟩
  icases HC with ⟨HC, D4⟩
  icases HC with ⟨HC, E4⟩
  icases HC with ⟨HC, D5⟩
  icases HC with ⟨HC, E5⟩
  icases HC with ⟨HC, D6⟩
  icases HC with ⟨HC, Z0⟩
  icases HC with ⟨HC, Z1⟩
  icases HC with ⟨HC, Z2⟩
  icases HC with ⟨HC, Z3⟩
  icases HC with ⟨HC, Z4⟩
  icases HC with ⟨HC, Z5⟩
  icases HC with ⟨HC, Z6⟩
  isplitl [B0 B1 B2 B3 B4 B5 B6]
  · iframe B0 B1 B2 B3 B4 B5 B6
  isplitl [S0 R0 D0 S1 R1 D1 S2 R2 D2 S3 R3 D3 S4 R4 D4 S5 R5 D5 S6 R6 D6 P0 Q0 E0 P1 Q1 E1 P2 Q2 E2 P3 Q3 E3 P4 Q4 E4 P5 Q5 E5]
  · isplitl [S0 R0 D0]
    · isplitl [S0]
      · iexact S0
      isplitl [R0]
      · iexact R0
      iexact D0
    isplitl [P0 Q0 E0]
    · isplitl [P0]
      · iexact P0
      isplitl [Q0]
      · iexact Q0
      iexact E0
    isplitl [S1 R1 D1]
    · isplitl [S1]
      · iexact S1
      isplitl [R1]
      · iexact R1
      iexact D1
    isplitl [P1 Q1 E1]
    · isplitl [P1]
      · iexact P1
      isplitl [Q1]
      · iexact Q1
      iexact E1
    isplitl [S2 R2 D2]
    · isplitl [S2]
      · iexact S2
      isplitl [R2]
      · iexact R2
      iexact D2
    isplitl [P2 Q2 E2]
    · isplitl [P2]
      · iexact P2
      isplitl [Q2]
      · iexact Q2
      iexact E2
    isplitl [S3 R3 D3]
    · isplitl [S3]
      · iexact S3
      isplitl [R3]
      · iexact R3
      iexact D3
    isplitl [P3 Q3 E3]
    · isplitl [P3]
      · iexact P3
      isplitl [Q3]
      · iexact Q3
      iexact E3
    isplitl [S4 R4 D4]
    · isplitl [S4]
      · iexact S4
      isplitl [R4]
      · iexact R4
      iexact D4
    isplitl [P4 Q4 E4]
    · isplitl [P4]
      · iexact P4
      isplitl [Q4]
      · iexact Q4
      iexact E4
    isplitl [S5 R5 D5]
    · isplitl [S5]
      · iexact S5
      isplitl [R5]
      · iexact R5
      iexact D5
    isplitl [P5 Q5 E5]
    · isplitl [P5]
      · iexact P5
      isplitl [Q5]
      · iexact Q5
      iexact E5
    isplitl [S6]
    · iexact S6
    isplitl [R6]
    · iexact R6
    iexact D6
  isplitl [X0 Y0 Z0 X1 Y1 Z1 X2 Y2 Z2 X3 Y3 Z3 X4 Y4 Z4 X5 Y5 Z5 X6 Y6 Z6]
  · isplitl [X0 Y0 Z0]
    · isplitl [X0]
      · iexact X0
      isplitl [Y0]
      · iexact Y0
      iexact Z0
    isplitl [X1 Y1 Z1]
    · isplitl [X1]
      · iexact X1
      isplitl [Y1]
      · iexact Y1
      iexact Z1
    isplitl [X2 Y2 Z2]
    · isplitl [X2]
      · iexact X2
      isplitl [Y2]
      · iexact Y2
      iexact Z2
    isplitl [X3 Y3 Z3]
    · isplitl [X3]
      · iexact X3
      isplitl [Y3]
      · iexact Y3
      iexact Z3
    isplitl [X4 Y4 Z4]
    · isplitl [X4]
      · iexact X4
      isplitl [Y4]
      · iexact Y4
      iexact Z4
    isplitl [X5 Y5 Z5]
    · isplitl [X5]
      · iexact X5
      isplitl [Y5]
      · iexact Y5
      iexact Z5
    isplitl [X6]
    · iexact X6
    isplitl [Y6]
    · iexact Y6
    iexact Z6
  iframe C0 C1 C2 C3 C4 C5 C6

/-! ## The semaphores -/

/-- The kernel's own semaphores. -/
abbrev osem : Fin 19 → SemLoc sig := ![.dma sendS, .dma recvS, .dma copyS, .dma tsendS, .dma trecvS,
  .dma (agsS 0), .dma (agsS 1), .dma (agsS 2), .dma (agsS 3), .dma (agsS 4), .dma (agsS 5), .dma (agsS 6),
  .dma (agrS 0), .dma (agrS 1), .dma (agrS 2), .dma (agrS 3), .dma (agrS 4), .dma (agrS 5), .dma (agrS 6)]

theorem ownSemFacts : Pipeline.OwnSemFacts cfg0.spec osem := by decide

theorem ownSems0_eq (c : Dev nD) : (Pipeline.ownSems0 (Ix := ℕ) (Name := ℕ) (U := UU) (Lvl := ℕ) (Val := Elt F) (τ := τ) osem c : sProp 𝕄)
    = iprop(semVal (kcell (c, .send)) 0 ∗ semVal (kcell (c, .recv)) 0 ∗ semVal ((c : Thread nD τ), .dma copyS) 0
      ∗ semVal (kcell (c, .tsend)) 0 ∗ semVal (kcell (c, .trecv)) 0
      ∗ semVal (kcell (c, .ags 0)) 0 ∗ semVal (kcell (c, .ags 1)) 0 ∗ semVal (kcell (c, .ags 2)) 0 ∗ semVal (kcell (c, .ags 3)) 0
      ∗ semVal (kcell (c, .ags 4)) 0 ∗ semVal (kcell (c, .ags 5)) 0 ∗ semVal (kcell (c, .ags 6)) 0
      ∗ semVal (kcell (c, .agr 0)) 0 ∗ semVal (kcell (c, .agr 1)) 0 ∗ semVal (kcell (c, .agr 2)) 0 ∗ semVal (kcell (c, .agr 3)) 0
      ∗ semVal (kcell (c, .agr 4)) 0 ∗ semVal (kcell (c, .agr 5)) 0 ∗ semVal (kcell (c, .agr 6)) 0) := by
  rw [Pipeline.ownSems0_eq_of_list c osem [0, 1, 2, 3, 4, 5, 6, 7, 8, 9, 10, 11, 12, 13, 14, 15, 16, 17, 18] (by decide) (by decide)]
  rfl

theorem unscopedSems0_eq (c : Dev nD) : (unscopedSems0 c : sProp 𝕄) = semVal (kcell (c, .bar)) 0 := by
  unfold unscopedSems0
  rw [bigSep_eq_bigSepL_of_eq [SemLoc.reg barS] (by decide) (by decide)]
  rfl

theorem sems_eq (c : Dev nD) :
    iprop(Pipeline.ownSems0 (Ix := ℕ) (Name := ℕ) (U := UU) (Lvl := ℕ) (Val := Elt F) (τ := τ) osem c ∗ unscopedSems0 c)
      = (iprop(semVal ((c : Thread nD τ), .dma copyS) 0 ∗ bigSep Finset.univ fun ρ : Role => semVal (kcell (c, ρ)) 0) : sProp 𝕄) := by
  rw [ownSems0_eq, unscopedSems0_eq, roles, bigSep7]
  refine BI.Entails.antisymm ?_ ?_
  · show (_ : sProp 𝕄) ⊢ _
    iintro ⟨⟨S, R, V, P, Q, X0, X1, X2, X3, X4, X5, X6, Y0, Y1, Y2, Y3, Y4, Y5, Y6⟩, B⟩
    iframe S R V P Q X0 X1 X2 X3 X4 X5 X6 Y0 Y1 Y2 Y3 Y4 Y5 Y6 B
  · show (_ : sProp 𝕄) ⊢ _
    iintro ⟨V, B, S, R, P, Q, ⟨X0, Y0⟩, ⟨X1, Y1⟩, ⟨X2, Y2⟩, ⟨X3, Y3⟩, ⟨X4, Y4⟩, ⟨X5, Y5⟩, ⟨X6, Y6⟩⟩
    iframe S R V P Q X0 X1 X2 X3 X4 X5 X6 Y0 Y1 Y2 Y3 Y4 Y5 Y6 B

end Cert.RingProof

end
-- ==== Proof.Run.lean ====
/-
# The run of the whole program

The launch hands every device its cells' ghost state, its tokens and credits; the body runs as proved; what comes back
gives the final memory: the arguments as they were, the result at `outV`, and every semaphore at zero.
-/
module

public import proofs.«01_k».proof.Proof.Deal
public import proofs.«01_k».proof.Proof.Gen.KernelIdeal.Launch
public import Idealize.ShloMosaic.Lib.Pipeline.Launch
public import Idealize.ShloMosaic.Lib.Pipeline.CollectiveSegs

@[expose] public section

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The ghost state of the launch -/

def u₀ : UU :=
  (initOf (Pipeline.cells cfgs cellOf_inj) (Pipeline.launchToks cfgs cellOf_inj), (initOf allCells allToks, 1))

/-- What the launch makes for a device's cells. -/
def made (c : Dev nD) : sProp 𝕄 :=
  iprop((bigSep Finset.univ fun ρ : Role => roundState ER (rd m) (kcell (c, ρ)) 0)
    ∗ (bigSep Finset.univ fun ρ : Role => iprop(atPos ER (kcell (c, ρ)) 0 ∅ 0 ∗ reached ER (kcell (c, ρ)) 0)) ∗ madeToks c)

/-- What a device holds once the cells' invariants stand. -/
def dealt (c : Dev nD) : sProp 𝕄 :=
  iprop((∃ K, records m K) ∗ (bigSep Finset.univ fun ρ : Role => atPos ER (kcell (c, ρ)) 0 ∅ 0) ∗ paidToks c
    ∗ semVal ((c : Thread nD τ), .dma copyS) 0)

theorem fund_cells : BI.own (ER (initOf allCells allToks)) ⊢ (|==> bigSep Finset.univ (made m) : sProp 𝕄) := by
  have hX (Φ : GSem nD τ sig → sProp 𝕄) : bigSep allCells Φ = bigSep Finset.univ fun c : Dev nD => bigSep Finset.univ fun ρ : Role => Φ (kcell (c, ρ)) := by
    unfold allCells; rw [bigSep_map, bigSep_univ_prod]; rfl
  have hT : bigSep allToks (fun x => (dutyTok ER x.1 x.2.1 x.2.2 : sProp 𝕄)) = bigSep Finset.univ fun c : Dev nD => madeToks c := by
    unfold allToks; rw [bigSep_map, bigSep_univ_prod]; rfl
  iintro HX
  imod (Rounds.fund ER (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold made
  simp only [bigSep_sep']
  iframe Hst Hat Hr Htok

/-- The invariants of a device's cells are made from its semaphores. -/
theorem cells_made (c : Dev nD) :
    iprop(Pipeline.ownSems0 (Ix := ℕ) (Name := ℕ) (U := UU) (Lvl := ℕ) (Val := Elt F) (τ := τ) osem c ∗ unscopedSems0 c ∗ made m c)
      ⊢ |={Set.univ}=> iprop((bigSep Finset.univ fun ρ : Role => iprop(∃ κ : ℕ, cellInv ER (rd m) κ (kcell (c, ρ))))
          ∗ (bigSep Finset.univ fun ρ : Role => iprop(atPos ER (kcell (c, ρ)) 0 ∅ 0 ∗ reached ER (kcell (c, ρ)) 0)) ∗ madeToks c
          ∗ semVal ((c : Thread nD τ), .dma copyS) 0) := by
  unfold made
  iintro ⟨Hos, Hus, Hst, Hat, Htok⟩
  ihave Hs := (Entails.of_eq (sems_eq (F := F) c)) $$ [Hos Hus]
  · iframe Hos Hus
  icases Hs with ⟨Hcp, Hv⟩
  imod (show iprop((bigSep Finset.univ fun ρ : Role => semVal (kcell (c, ρ)) 0) ∗ bigSep Finset.univ fun ρ : Role => roundState ER (rd m) (kcell (c, ρ)) 0)
      ⊢ (|={Set.univ}=> bigSep Finset.univ fun ρ : Role => iprop(∃ κ : ℕ, cellInv ER (rd m) κ (kcell (c, ρ))) : sProp 𝕄) from by
        rw [← bigSep_sep']
        exact (bigSep_mono fun ρ _ => (Rounds.body_intro ER (rd m) (kcell (c, ρ))).trans inv_alloc).trans (bigSep_fupd _ _)) $$ [Hv Hst] with Hinv
  · iframe Hv Hst
  imodintro
  iframe Hinv Hat Htok Hcp

theorem dealt_of_made :
    (bigSep Finset.univ fun c : Dev nD => iprop((bigSep Finset.univ fun ρ : Role => iprop(∃ κ : ℕ, cellInv ER (rd m) κ (kcell (c, ρ))))
          ∗ (bigSep Finset.univ fun ρ : Role => iprop(atPos ER (kcell (c, ρ)) 0 ∅ 0 ∗ reached ER (kcell (c, ρ)) 0)) ∗ madeToks c
          ∗ semVal ((c : Thread nD τ), .dma copyS) 0) : sProp 𝕄)
      ⊢ bigSep Finset.univ (dealt m) := by
  rw [bigSep_sep', bigSep_sep', bigSep_sep', ← bigSep_univ_prod (fun ck : Dev nD × Role => iprop(∃ κ : ℕ, cellInv ER (rd m) κ (kcell ck))),
    bigSep_congr (s := Finset.univ) (fun (c : Dev nD) _ => bigSep_sep' Finset.univ (fun ρ : Role => (atPos ER (kcell (c, ρ)) 0 ∅ 0 : sProp 𝕄)) (fun ρ => reached ER (kcell (c, ρ)) 0)),
    bigSep_sep', ← bigSep_univ_prod (fun ck : Dev nD × Role => (reached ER (kcell ck) 0 : sProp 𝕄)), toks_around]
  iintro ⟨HI, ⟨Hat, #HR⟩, Htok, Hcp⟩
  ihave HK := (BI.bigSep_exists_pi Finset.univ (fun (ck : Dev nD × Role) (κ : ℕ) => (cellInv ER (rd m) κ (kcell ck) : sProp 𝕄))) $$ HI
  icases HK with ⟨%K, #HI⟩
  iapply (with_persistent (R := records m K) (Φ := fun c => iprop((bigSep Finset.univ fun ρ : Role => atPos ER (kcell (c, ρ)) 0 ∅ 0) ∗ paidToks c
    ∗ semVal ((c : Thread nD τ), .dma copyS) 0)) fun c _ => by
      show (_ : sProp 𝕄) ⊢ _
      unfold dealt
      iintro ⟨#HK, Hat, Htok, Hcp⟩
      isplitr
      · iexists K
        iexact HK
      iframe Hat Htok Hcp)
  isplitr
  · unfold records
    isplitl
    · iexact HI
    iexact HR
  simp only [bigSep_sep']
  iframe Hat Htok Hcp

theorem glob : (bigSep Finset.univ fun c => iprop(Pipeline.ownSems0 (Ix := ℕ) (Name := ℕ) (U := UU) (Lvl := ℕ) (Val := Elt F) (τ := τ) osem c
      ∗ unscopedSems0 c ∗ made m c) : sProp 𝕄)
    ⊢ |={Set.univ}=> bigSep Finset.univ (dealt m) :=
  ((bigSep_mono fun c _ => cells_made m c).trans (bigSep_fupd _ _)).trans (BI.fupd_mono (dealt_of_made m))

/-! ## The region -/

/-- The arguments and the result that lie outside the region's windows. -/
def outer (c : Dev nD) (f : Buf (Elt F) ((c : Thread nD τ).loc main_v1)) : sProp 𝕄 :=
  iprop(((c : Thread nD τ).loc main_arg0 ↦{fullShare} m ((c : Thread nD τ).loc main_arg0))
    ∗ ((c : Thread nD τ).loc main_arg1 ↦{fullShare} m ((c : Thread nD τ).loc main_arg1)) ∗ ((c : Thread nD τ).loc main_v1 ↦{fullShare} f))

/-- What a device starts with. -/
def start (c : Dev nD) : sProp 𝕄 :=
  iprop((∃ K, records m K) ∗ levAts L lv ∗ devToks c ∗ (bigSep Finset.univ fun ρ : Role => atPos ER (kcell (c, ρ)) 0 ∅ 0)
    ∗ (∃ f, outer m c f) ∗ semVal ((c : Thread nD τ), .dma copyS) 0)
def before0 (c : Dev nD) : sProp 𝕄 := iprop(start m c ∗ scratch c)
def after0 (c : Dev nD) : sProp 𝕄 :=
  iprop(scratch c ∗ outer m c (outV m) ∗ semVal ((c : Thread nD τ), .dma copyS) 0 ∗ bigSep Finset.univ fun ρ : Role => semVal (kcell (c, ρ)) 0)

def sxStg (c : Dev nD) : (cc0_stg0_0 : Ref sig .tc).ty.Contents (Elt F) :=
  (win0_0.blk (0 : Fin 1)).view.read (Elt F) (m ((c : Thread nD τ).loc main_arg2))
def swStg (c : Dev nD) : (cc0_stg1_0 : Ref sig .tc).ty.Contents (Elt F) :=
  (win0_1.blk (0 : Fin 1)).view.read (Elt F) (m ((c : Thread nD τ).loc main_arg3))

theorem S1_eq (i j : S1.Idx) : i = j := by
  funext a
  match a with
  | ⟨0, _⟩ => exact Subsingleton.elim (α := Fin 1) _ _
theorem sxStg_eq (c : Dev nD) : sxStg m c = sxIn m c :=
  funext fun i => congrArg (fun j => (m ((c : Thread nD τ).loc main_arg2) : S1.Idx → F .f32) j) (S1_eq ((win0_0.blk (0 : Fin 1)).view.emb i) i)
theorem swStg_eq (c : Dev nD) : swStg m c = swIn m c :=
  funext fun i => congrArg (fun j => (m ((c : Thread nD τ).loc main_arg3) : S1.Idx → F .f32) j) (S1_eq ((win0_1.blk (0 : Fin 1)).view.emb i) i)

def dats (_ : Fin 1) (c : Dev nD) : Dat τ (Elt F) ℕ ℕ UU ℕ cfg0 c where
  A w := m ((cfg0.win w).arr.view.loc (c : Thread nD τ))
  after w _ := match w with
    | ⟨0, _⟩ => sxStg m c
    | ⟨1, _⟩ => swStg m c
  Φ t := match t with
    | ⟨0, _⟩ => before0 m c
    | ⟨_ + 1, _⟩ => after0 m c
  q _ := fullShare
  owed t := match t with
    | ⟨0, _⟩ => sumDues c allDues
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem bigSep_W (Φ : Fin cfg0.W → sProp 𝕄) : bigSep Finset.univ Φ = iprop(Φ (0 : Fin 2) ∗ Φ (1 : Fin 2)) := bigSep_W0 Φ
theorem fin_N (t : Fin cfg0.N) : t = t0_0 := fin_N0 t
theorem fetch_0 : (cfg0.win (0 : Fin 2)).fetch t0_0 = true := rfl
theorem fetch_1 : (cfg0.win (1 : Fin 2)).fetch t0_0 = true := rfl

def bodyPre (c : Dev nD) : sProp 𝕄 :=
  iprop(before0 m c ∗ (dats m 0 c).owesAt 0 t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(after0 m c ∗ (dats m 0 c).owesAt 0 t0_0.succ ∗ stg c cc0_stg0_0 (sxStg m c) ∗ stg c cc0_stg1_0 (swStg m c))

theorem pts_sx (c : Dev nD) (f : Vec F S1 .f32) : (pts sxM c f : sProp 𝕄) = ((c : Thread nD τ).loc cc0_stg0_0 ↦{fullShare} f) := by
  unfold pts; simp only [Memref.view_whole, View.set_whole]
theorem pts_sw (c : Dev nD) (f : Vec F S1 .f32) : (pts swM c f : sProp 𝕄) = ((c : Thread nD τ).loc cc0_stg1_0 ↦{fullShare} f) := by
  unfold pts; simp only [Memref.view_whole, View.set_whole]

theorem body_runs (c : Dev nD) : bodyPre m c ⊢ runs c (bodyProg (F := F)) (bodyPost m c) := by
  unfold bodyPre before0 start
  iintro ⟨⟨⟨⟨%K, #HR⟩, #Hlev, Htok, Hat, ⟨%f, Ho⟩, Hcp⟩, Hscr⟩, HO, ⟨%d0, %g0, %hg0, H2⟩, ⟨%d1, %g1, %hg1, H3⟩⟩
  have h0 : g0 = sxIn m c := by rw [hg0]; unfold Dat.before; rw [if_pos fetch_0]; exact sxStg_eq m c
  have h1 : g1 = swIn m c := by rw [hg1]; unfold Dat.before; rw [if_pos fetch_1]; exact swStg_eq m c
  subst h0 h1
  unfold Dat.owesAt Pipeline.owesWithin outer
  icases HO with ⟨%W, %hW, HO⟩
  icases Ho with ⟨Ha0, Ha1, Hv⟩
  ihave H2 := (Entails.of_eq (pts_sx c (sxIn m c)).symm) $$ H2
  ihave H3 := (Entails.of_eq (pts_sw c (swIn m c)).symm) $$ H3
  ihave H := (body_spec m K c) $$ [Htok Hat Hcp Hscr HO Ha0 Ha1 Hv H2 H3]
  · iframe HR Hlev Htok Hat Hscr Hcp
    isplitl [Ha0 Ha1 H2 H3]
    · unfold inputs
      iframe Ha0 Ha1 H2 H3
    isplitl [Hv]
    · iexists f
      iexact Hv
    iexists W
    iexact HO
  iapply (wp_wand frame (wpE (defs₀ (F := F)) 𝒱₀ (c : Thread nD τ) none) Set.univ) $$ [H]
  · iexact H
  iintro %_ ⟨Hscr, Hin, Hv, Hcp, Hs, ⟨%W', HO⟩⟩
  unfold inputs
  icases Hin with ⟨Ha0, Ha1, H2, H3⟩
  ihave H2 := (Entails.of_eq (pts_sx c (sxIn m c))) $$ H2
  ihave H3 := (Entails.of_eq (pts_sw c (swIn m c))) $$ H3
  unfold bodyPost after0 outer Dat.owesAt Pipeline.owesWithin
  isplitl [Hscr Ha0 Ha1 Hv Hcp Hs]
  · iframe Hscr Ha0 Ha1 Hv Hcp Hs
  isplitl [HO]
  · iexists W'
    isplitr
    · ipureintro; exact fun _ _ => Or.inl trivial
    iexact HO
  isplitl [H2]
  · iexists _
    isplitr
    · ipureintro
      exact (sxStg_eq m c).symm
    iexact H2
  iexists _
  isplitr
  · ipureintro
    exact (swStg_eq m c).symm
  iexact H3

set_option maxRecDepth 60000 in
/-- The obligation the region states for its body. -/
theorem body_obligation (c : Dev nD) : BodyObligation (dats (F := F) m 0 c) (defs₀ (F := F)) 𝒱₀ 0 Set.univ := fun t => by
  rw [fin_N t]
  rw [bigSep_W, bigSep_W]
  simp only [owns_whole_eq]
  have h := body_runs m c
  unfold runs at h
  rw [← cc0_body_eq] at h
  exact h

/-! ## The launch -/

theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => sumDues d allDues) c ∗ prngReg c (ρ c) ∗ dealt m c)
      ⊢ |={Set.univ}=> iprop(start m c ∗ emp) := by
  rw [Pipeline.unscopedRestP_none, unscopedRest0_eq]
  unfold dealt start outer
  iintro ⟨⟨Ha0, Ha1, Hv⟩, Hlev, Hcr, -, HK, Hat, Htok, Hcp⟩
  ihave Hc := (creds_of_launch c allDues allDues_off) $$ Hcr
  ihave Hd := (devToks_intro (F := F) c) $$ [Htok Hc]
  · iframe Htok Hc
  imodintro
  isplitl
  · iframe HK Hlev Hd Hat Hcp
    iexists _
    iframe Ha0 Ha1 Hv
  · iempintro

theorem scratch_eq (c : Dev nD) : (Pipeline.scopedRest cfg0.spec c : sProp 𝕄) = scratch c := by
  rw [scopedRest0_eq]
  unfold scratch pts
  simp only [Memref.view_whole, View.set_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before0 m c from rfl, scratch_eq]
  unfold before0
  iintro ⟨Hs, -, Hr⟩
  iframe Hs Hr

/-- What a device ends with. -/
def ends (c : Dev nD) : sProp 𝕄 := iprop(unscopedSems0 c ∗ outer m c (outV m))

theorem phi1_exit (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = after0 m c from rfl, scratch_eq]
  unfold after0 ends
  iintro ⟨Hr, Ho, Hcp, Hs⟩
  ihave H := (Entails.of_eq (sems_eq (F := F) c).symm) $$ [Hcp Hs]
  · iframe Hcp Hs
  icases H with ⟨H1, H2⟩
  iframe Hr Ho H1 H2

theorem lev_stage (w : Fin cfg0.W) (s : Fin (cfg0.win w).nbuf) : lev (.dma ((cfg0.win w).sem s)) 0 = 0 := by
  revert w s; decide

theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact mayWait c _ 0 (by decide) allDues (by rw [lev_stage]; exact allDues_above.mono (by decide))
    · exact mayWait c _ 0 (by decide) [] (above_nil _)

theorem read1 (ℓ : Loc nD τ sig) (f : Buf (Elt F) ℓ) (s : Phys nD τ sig (Elt F)) :
    iprop((ℓ ↦{fullShare} f) ∗ SI s) ⊢ (iprop(⌜s.mem.mem ℓ = f⌝ ∗ SI s) : sProp 𝕄) := by
  iintro ⟨H, HSI⟩
  icombine HSI H gives %h
  isplitr
  · ipureintro
    exact Buf.eq_of_forall_mem_univ h
  iexact HSI

/-- What is read of a device's memory at the end. -/
def endsAt (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outV m

theorem ends_read (c : Dev nD) (s' : Phys nD τ sig (Elt F)) :
    iprop(ends m c ∗ emp ∗ SI s') ⊢ |={Set.univ}=> (iprop(⌜endsAt m c s'.mem⌝ ∗ SI s') : sProp 𝕄) := by
  unfold ends outer
  iintro ⟨⟨Hu, Ha0, Ha1, Hv⟩, -, HSI⟩
  ihave H := (read1 _ _ s') $$ [Ha0 HSI]
  · iframe Ha0 HSI
  icases H with ⟨%h0, HSI⟩
  ihave H := (read1 _ _ s') $$ [Ha1 HSI]
  · iframe Ha1 HSI
  icases H with ⟨%h1, HSI⟩
  ihave H := (read1 _ _ s') $$ [Hv HSI]
  · iframe Hv HSI
  icases H with ⟨%h2, HSI⟩
  imod (Pipeline.unscopedSems0_read (X := unscopedSems0 c) (c := c) fupd_intro s') $$ [Hu HSI] with ⟨%h3, HSI⟩
  · iframe Hu HSI
  imodintro
  iframe HSI
  ipureintro
  exact ⟨h3, h0, h1, h2⟩

/-! ## The run -/

/-- A device's memory at the end: its arguments as they were, the result at `outV`. -/
def finalAt (c : Dev nD) (s : MemSt nD τ sig (Elt F)) : Prop :=
  s.mem ((c : Thread nD τ).loc main_v1) = outV m
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

set_option maxRecDepth 60000 in
/-- From any memory with every semaphore at zero, over any float values, every execution ends with the arguments as they
    were, the result of every device at `outV`, and every semaphore at zero. -/
theorem run_main (ρ : Dev nD → PrngReg) : θ_run defs (onTc (τ := τ) (main (F := F))) ⟨m, fun _ => 0, ρ⟩
    (fun r => (∀ c, finalAt m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => sumDues d allDues) (howed₀ := fun _ => rfl) (howedN := fun _ => rfl)
    (L := L) (lv := lv) (hL := L_of_ne) (hwaits := waits m)
    (G := made m) (G' := dealt m) (u₀ := u₀)
    (hu₀ := by
      unfold u₀
      iintro Hu
      ihave H := (ownU_pair _ _) $$ Hu
      icases H with ⟨HP, HX⟩
      ihave HX := (show _ ⊢ (BI.own (ER (initOf allCells allToks)) : sProp 𝕄) from Entails.of_eq (by unfold ER; rfl)) $$ HX
      imod (fund_cells m) $$ HX with HG
      imodintro
      iframe HP HG)
    (hglob := glob m)
    (hA := fun _ _ => rfl) (hpf := fun _ k => k.elim0)
    (X := start m) (Y := ends m) (Z := fun _ => iprop(emp))
    (hX := start_intro m ρ) (hin := phi0_intro m) (hout := phi1_exit m)
    (QY := endsAt m)
    (hY := ends_read m)
    (hQ := fun _ h hs => ⟨fun c => ⟨(h c).2.2.2.2.2, (h c).2.2.2.1, (h c).2.2.2.2.1,
      ((h c).1 (0 : Fin 2)).trans ((dats (F := F) m 0 c).arrAt_in (0 : Fin 2) rfl _),
      ((h c).1 (1 : Fin 2)).trans ((dats (F := F) m 0 c).arrAt_in (1 : Fin 2) rfl _)⟩, sem_eq_zero hs fun c => (h c).2.2.1⟩)

end Cert.RingProof

end
-- ==== Proof.Equation.lean ====
/-
# The kernel's result is the scaled product

Over the extended reals a row block of the result is the sum of the eight devices' partial products, each the product
over 512 of the 4096 contracted positions; that sum is the product over all of them.
-/
module

public import proofs.«01_k».proof.Proof.Values
public import proofs.«01_k».proof.Proof.Gen.ReferenceIdeal
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.RingProof

open Cert.KernelIdeal Cert.KernelIdeal.Gen
open Idealize.ShloMosaic Idealize.ShloMosaic.TcCoe Idealize.ShloMosaic.ValueIdx

/-! ## The stored values at an index -/

theorem pay15_apply (xa : FVec Ideal S512x512 .bf16) (wq : FVec Ideal S512x2048 .bf16) (p : Fin 512) (q : Fin 2048) :
    k0_pay15 (F := Ideal) xa wq (ix2 p q) = ∑ k : Fin 512, xa (ix2 p k) * wq (ix2 k q) := by
  unfold k0_pay15
  rw [shapeCast_self]
  show FloatOps.matmul (DotDims.plain 512 512 2048) none xa wq (constant S512x2048 .f32 0) (ix2 p q) = _
  rw [Ideal.matmul_plain_apply, constant_apply, show Ideal.ofBits FTy.f32 0 = 0 from Ideal.ofBits_zero_f32]
  exact zero_add (M := EReal) _

theorem pay24_apply (a b : FVec Ideal S512x8192 .bf16) (i : S512x8192.Idx) : k0_pay24 (F := Ideal) a b i = (a i + b i : EReal) := by
  unfold k0_pay24
  rw [shapeCast_self]
  rfl

theorem pay59_apply (sx sw : Ideal .f32) (v : FVec Ideal S512x8192 .bf16) (i : S512x8192.Idx) :
    k0_pay59 (F := Ideal) sx sw v i = (v i * (sx * sw) : EReal) := by
  unfold k0_pay59
  rw [shapeCast_self]
  rfl

variable (m : (ℓ : Loc nD τ sig) → Buf (Elt Ideal) ℓ)

/-! ## The sum around the ring -/

theorem part_apply (c : Dev nD) (r : Fin 8) (p : Fin 512) (q : Fin 8192) :
    part m c r (ix2 p q) = ∑ k : Fin 512, xIn m c (ix2 ⟨512 * r.val + p.val, by omega⟩ k) * wIn m c (ix2 k q) := by
  refine (pay15_apply _ _ _ _).trans (Finset.sum_congr rfl fun k _ => ?_)
  refine congrArg (xIn m c (ix2 ⟨512 * r.val + p.val, by omega⟩ k) * ·) (congrArg (fun z => wIn m c (ix2 k z)) (Fin.ext ?_))
  show 2048 * (q.val / 2048) + q.val % 2048 = q.val
  exact Nat.div_add_mod _ _

/-- Device `j` places before `c`. -/
def back (c : Dev nD) : Fin 8 ≃ Dev nD :=
  ⟨fun j => ⟨(c.val + 8 - j.val) % 8, Nat.mod_lt _ (by decide)⟩, fun d => ⟨(c.val + 8 - d.val) % 8, Nat.mod_lt _ (by decide)⟩,
    fun j => Fin.ext (by have hc : c.val < 8 := c.isLt; have := j.isLt; show (c.val + 8 - (c.val + 8 - j.val) % 8) % 8 = j.val; omega),
    fun d => Fin.ext (by have hc : c.val < 8 := c.isLt; have : d.val < 8 := d.isLt; show (c.val + 8 - (c.val + 8 - d.val) % 8) % 8 = d.val; omega)⟩

theorem accV_succ (s : ℕ) (c : Dev nD) (i : S512x8192.Idx) :
    accV m (s + 1) c i = (part m c (rowOf c s) i + accV m s (lft c) i : EReal) := pay24_apply _ _ _

/-- After `s` steps the accumulator is the sum of the `s + 1` devices' partial products the row block has met. -/
theorem accV_apply (i : S512x8192.Idx) : ∀ (s : ℕ) (c : Dev nD) (hs : s < 8),
    accV m s c i = ∑ j : Fin (s + 1), (part m (back c ⟨j.val, by omega⟩) (sh (8 - s) c) i : EReal)
  | 0, c, _ => by
    rw [Fin.sum_univ_one]
    have h1 : back c ⟨(0 : Fin 1).val, by decide⟩ = c := Fin.ext (by have hc : c.val < 8 := c.isLt; show (c.val + 8 - 0) % 8 = c.val; omega)
    have h2 : sh (8 - 0) c = c := Fin.ext (by have hc : c.val < 8 := c.isLt; show (c.val + 8) % 8 = c.val; omega)
    rw [h1, h2]
    rfl
  | s + 1, c, hs => by
    rw [accV_succ, accV_apply i s (lft c) (by omega), Fin.sum_univ_succ (n := s + 1)]
    have hc : c.val < 8 := c.isLt
    have h1 : back c ⟨(0 : Fin (s + 1 + 1)).val, by omega⟩ = c := Fin.ext (by show (c.val + 8 - 0) % 8 = c.val; omega)
    have h2 : rowOf c s = sh (8 - (s + 1)) c := Fin.ext (by show (c.val + 7 - s) % 8 = (c.val + (8 - (s + 1))) % 8; congr 1; omega)
    have h3 : sh (8 - s) (lft c) = sh (8 - (s + 1)) c := Fin.ext (by
      show ((c.val + 7) % 8 + (8 - s)) % 8 = (c.val + (8 - (s + 1))) % 8; omega)
    rw [h1, h2, h3]
    refine congrArg (part m c (sh (8 - (s + 1)) c) i + · : EReal → EReal) (Finset.sum_congr rfl fun j _ => ?_)
    have h4 : back (lft c) ⟨j.val, by omega⟩ = back c ⟨j.succ.val, by have := j.isLt; show j.val + 1 < 8; omega⟩ := Fin.ext (by
      have := j.isLt
      show ((c.val + 7) % 8 + 8 - j.val) % 8 = (c.val + 8 - (j.val + 1)) % 8; omega)
    rw [h4]

/-- The row block a device ends with, before it is scaled: the sum over all the devices. -/
theorem accV_last (c : Dev nD) (i : S512x8192.Idx) : accV m 7 c i = ∑ d : Fin 8, (part m d (own c) i : EReal) := by
  rw [accV_apply m i 7 c (by decide)]
  exact Equiv.sum_comp (back c) fun d : Dev nD => (part m d (own c) i : EReal)

/-- A sum over 4096 positions, by the eight blocks of 512. -/
theorem sum_blocks (f : Fin 4096 → EReal) :
    ∑ K : Fin 4096, f K = ∑ d : Fin 8, ∑ k : Fin 512, f ⟨512 * d.val + k.val, by omega⟩ := by
  rw [← Equiv.sum_comp (finProdFinEquiv (m := 8) (n := 512)) f, Fintype.sum_prod_type]
  refine Finset.sum_congr rfl fun d _ => Finset.sum_congr rfl fun k _ => congrArg f (Fin.ext ?_)
  show k.val + 512 * d.val = 512 * d.val + k.val
  omega

/-! ## The whole result -/

theorem scale_idx (i j : (⟨1, ![1]⟩ : Shape).Idx) : i = j := by
  funext a
  match a with
  | ⟨0, _⟩ => exact Subsingleton.elim (α := Fin 1) _ _

/-- What the reference computes, of the whole arrays. -/
def refV (X : FVec Ideal Cert.ReferenceIdeal.S4096x4096 .f32) (W : FVec Ideal Cert.ReferenceIdeal.S4096x8192 .f32)
    (sx sw : FVec Ideal Cert.ReferenceIdeal.S1 .f32) : FVec Ideal Cert.ReferenceIdeal.S4096x8192 .bf16 :=
  truncf .bf16 (mulf (Host.dotGeneral Cert.ReferenceIdeal.dot_S4096x4096_S4096x8192_S4096x8192_1_0_0_1_n_n none X W)
    (broadcastInDim Cert.ReferenceIdeal.S4096x8192 ![0, 1] Cert.ReferenceIdeal.Facts₀.bcast_S1x1_S4096x8192_0_1
      (broadcastInDim Cert.ReferenceIdeal.S1x1 ![1] Cert.ReferenceIdeal.Facts₀.bcast_S1_S1x1_1 (mulf sx sw))))
    Cert.ReferenceIdeal.Facts₀.bitsLt_bf16_f32

theorem refV_apply (X : FVec Ideal Cert.ReferenceIdeal.S4096x4096 .f32) (W : FVec Ideal Cert.ReferenceIdeal.S4096x8192 .f32)
    (sx sw : FVec Ideal Cert.ReferenceIdeal.S1 .f32) (a : Fin 4096) (b : Fin 8192) :
    refV X W sx sw (ix2 a b) = ((∑ K : Fin 4096, X (ix2 a K) * W (ix2 K b)) * (sx (ix1 0) * sw (ix1 0)) : EReal) := by
  rw [← StackMember.dotGeneral_plain_apply none X W a b]
  refine congrArg₂ (fun s t : EReal => Host.dotGeneral (DotDims.plain 4096 4096 8192) none X W (ix2 a b) * (s * t)) ?_ ?_
  · exact congrArg sx (scale_idx _ _)
  · exact congrArg sw (scale_idx _ _)

/-- Where each device's arguments are its blocks of the whole arrays, the result is what the reference computes. -/
theorem outV_eq (X : FVec Ideal Cert.ReferenceIdeal.S4096x4096 .f32) (W : FVec Ideal Cert.ReferenceIdeal.S4096x8192 .f32)
    (sx sw : FVec Ideal Cert.ReferenceIdeal.S1 .f32)
    (hx : ∀ c, xIn m c = Layout.block ⟨2, ![4096, 512]⟩ ⟨2, ![4096, 4096]⟩ 1 8 c X)
    (hw : ∀ c, wIn m c = Layout.block ⟨2, ![512, 8192]⟩ ⟨2, ![4096, 8192]⟩ 0 8 c W)
    (hsx : ∀ c, sxIn m c = sx) (hsw : ∀ c, swIn m c = sw) : outV m = refV X W sx sw := by
  have key (a : Fin 4096) (b : Fin 8192) : outV m (ix2 a b) = refV X W sx sw (ix2 a b) := by
    rw [refV_apply, sum_blocks]
    unfold outV finV
    rw [pay59_apply, hsx, hsw, accV_last]
    refine congrArg (fun z : EReal => z * (sx (ix1 0) * sw (ix1 0))) (Finset.sum_congr rfl fun d _ => ?_)
    have hown : own (sh 7 ⟨a.val / 512, by show a.val / 512 < 8; omega⟩) = ⟨a.val / 512, by omega⟩ := sh_sh 1 7 _ rfl
    refine (part_apply m d _ _ _).trans (Finset.sum_congr rfl fun k _ => ?_)
    rw [hx, hw]
    refine congrArg₂ (fun s t : EReal => s * t) (congrArg X ?_) (congrArg W ?_)
    · funext t
      match t with
      | ⟨0, _⟩ =>
        refine Fin.ext ?_
        show 512 * (own (sh 7 ⟨a.val / 512, _⟩)).val + a.val % 512 = a.val
        rw [hown]
        exact Nat.div_add_mod _ _
      | ⟨1, _⟩ =>
        refine Fin.ext ?_
        show d.val * 512 + k.val = 512 * d.val + k.val
        omega
    · funext t
      match t with
      | ⟨0, _⟩ =>
        refine Fin.ext ?_
        show d.val * 512 + k.val = 512 * d.val + k.val
        omega
      | ⟨1, _⟩ => rfl
  funext i
  have hi : i = ix2 (i 0) (i 1) := by
    funext t
    match t with
    | ⟨0, _⟩ => rfl
    | ⟨1, _⟩ => rfl
  rw [hi]
  exact key _ _

end Cert.RingProof

end
-- ==== Proof.Twin.lean ====
/-
The kernel is printed twice, once for the machine's floats and once for the reals, and no operation is printed
differently: the two texts define the same body, the same table of labels and the same whole program, at any float
values. What is proved of the one therefore holds of the other.
-/
module

public import proofs.«01_k».proof.Defs
public import proofs.«01_k».proof.Proof.Gen.Kernel
public import proofs.«01_k».proof.Proof.Gen.KernelIdeal

@[expose] public section

noncomputable section

namespace Cert.Twin

open Idealize.ShloMosaic Idealize.ShloMosaic.TcCoe

variable {F : FTy → Type} [FloatOps F]

/-- The arrays and semaphores are the same. -/
theorem sig_same : Cert.Kernel.sig = Cert.KernelIdeal.sig := rfl

/-- The body of the kernel is the same. -/
theorem body_same : @Cert.Kernel.cc0_body F _ _ = @Cert.KernelIdeal.cc0_body F _ _ := rfl

/-- The table of the kernel's labels is the same: it has one label, whose entry is the body. -/
theorem defs₀_same : @Cert.Kernel.defs₀ F _ _ = @Cert.KernelIdeal.defs₀ F _ _ := by
  unfold Cert.Kernel.defs₀ Cert.KernelIdeal.defs₀
  refine congrArg (fun b => @Defs.onTc Cert.KernelIdeal.nD Cert.KernelIdeal.τ Cert.KernelIdeal.sig (Elt F) Cert.KernelIdeal.Λ₀ b) ?_
  funext k x
  match k, x with
  | 0, (t, s) => rfl
  | ⟨_ + 1, h⟩, _ => exact absurd h (Nat.not_lt.2 (Nat.le_add_left _ _))

/-- The whole table, with the pipeline's labels, is the same. -/
theorem defs_same : @Cert.Kernel.defs F _ _ = @Cert.KernelIdeal.defs F _ _ :=
  congrArg (fun d => @Pipeline.defs _ _ _ _ _ _ (Cert.KernelIdeal.pcfgs (F := F)) d) defs₀_same

/-- The program that calls the kernel is the same. -/
theorem main_same : @Cert.Kernel.main F _ = @Cert.KernelIdeal.main F _ := rfl

end Cert.Twin

end
-- ==== Proof.lean ====
/-
# The proof of `Cert.Claim`

The run of the kernel (`Proof/Run.lean`) is proved once, over any float values: the two frames of the kernel are its
instances with the values dropped, and the algebraic claim is its instance over the extended reals, with the equation
of `Proof/Equation.lean`. The reference declares no semaphore and its run is the composition of its operations.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equation
public import proofs.«01_k».proof.Proof.Twin
public import Idealize.ShloMosaic.Adequacy
public import Idealize.ShloMosaic.Init

@[expose] public section

noncomputable section

namespace Cert.Proof

open Idealize.ShloMosaic Idealize.ShloMosaic.TcCoe Idealize.SL.Sem Cert.RingProof

/-! ## The frames -/

theorem frame_ideal : Cert.quiescent_KernelIdeal := fun m ρ _ =>
  (θ_run Cert.KernelIdeal.defs _ _).mono (fun _ h => ⟨fun c => (h.1 c).2, h.2⟩) (run_main (F := Ideal) m ρ)

/-- The run at the machine's floats, its values dropped. -/
theorem frame_bits (m : (ℓ : Loc Cert.KernelIdeal.nD Cert.KernelIdeal.τ Cert.KernelIdeal.sig) → Buf (Elt Bits) ℓ)
    (ρ : Dev Cert.KernelIdeal.nD → PrngReg) :
    θ_run (Cert.KernelIdeal.defs (F := Bits)) (onTc Cert.KernelIdeal.main) ⟨m, fun _ => 0, ρ⟩ (fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3))
      ∧ r.2.sem = fun _ => 0) :=
  (θ_run Cert.KernelIdeal.defs _ _).mono (fun _ h => ⟨fun c => (h.1 c).2, h.2⟩) (run_main (F := Bits) m ρ)

/-- A run is a run of any equal program. -/
theorem run_of_eq {nD : Nat} {τ : Topo} {sig : RefSig} {Val : EltTy → Type} {Λ : Labels} {d d' : Defs nD τ sig Val Λ}
    {p p' : Dev nD → Prog (TpuEff nD τ sig Val Λ .tc) PUnit} (hd : d = d') (hp : p = p') {s Q}
    (h : θ_run d' (onTc p') s Q) : θ_run d (onTc p) s Q := by
  subst hd hp; exact h

theorem frame_kernel : Cert.quiescent_Kernel := fun m ρ _ =>
  run_of_eq Cert.Twin.defs_same Cert.Twin.main_same (frame_bits m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values -/

theorem values : Cert.algebraic_KernelIdeal_ReferenceIdeal := fun m ρ m' ρ' _ hm =>
  ⟨_, (θ_run Cert.KernelIdeal.defs _ _).mono
      (fun _ h c => ⟨(h.1 c).1.trans (outV_eq m _ _ _ _ (fun c => (hm c).1) (fun c => (hm c).2.1) (fun c => (hm c).2.2.1) (fun c => (hm c).2.2.2)),
        (h.1 c).2⟩) (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, values⟩

end Cert.Proof

end
